-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "softmax_scale" .f32 0x3D8293EE#32 (((Real.sqrt 512)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46_0) = v0 c
          ∧ r.2.mem ((c.tc : Thread Cert.ReferenceIdeal.nD Cert.ReferenceIdeal.τ).loc Cert.ReferenceIdeal.main_v46_1) = v1 c
          ∧ r.2.mem ((c.tc : Thread Cert.ReferenceIdeal.nD Cert.ReferenceIdeal.τ).loc Cert.ReferenceIdeal.main_v46_2) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7x512x3072 : Shape := ⟨3, ![7, 512, 3072]⟩
abbrev S7x3072x512 : Shape := ⟨3, ![7, 3072, 512]⟩
abbrev S512x512 : Shape := ⟨2, ![512, 512]⟩
abbrev S512 : Shape := ⟨1, ![512]⟩
abbrev S1x512 : Shape := ⟨2, ![1, 512]⟩
abbrev S7x3072x16 : Shape := ⟨3, ![7, 3072, 16]⟩
abbrev S1x512x512 : Shape := ⟨3, ![1, 512, 512]⟩
abbrev S1x3072x512 : Shape := ⟨3, ![1, 3072, 512]⟩
abbrev S1x512x3072 : Shape := ⟨3, ![1, 512, 3072]⟩
abbrev S1x512x16 : Shape := ⟨3, ![1, 512, 16]⟩
abbrev S3072x512 : Shape := ⟨2, ![3072, 512]⟩
abbrev S8x512 : Shape := ⟨2, ![8, 512]⟩
abbrev S1x256x512 : Shape := ⟨3, ![1, 256, 512]⟩
abbrev S256x512 : Shape := ⟨2, ![256, 512]⟩
abbrev S32x8x512 : Shape := ⟨3, ![32, 8, 512]⟩
abbrev S1x8x512 : Shape := ⟨3, ![1, 8, 512]⟩
abbrev S1x512x256 : Shape := ⟨3, ![1, 512, 256]⟩
abbrev S512x256 : Shape := ⟨2, ![512, 256]⟩
abbrev S512x128 : Shape := ⟨2, ![512, 128]⟩
abbrev S16x32x128 : Shape := ⟨3, ![16, 32, 128]⟩
abbrev S16x128 : Shape := ⟨2, ![16, 128]⟩
abbrev S16x1x128 : Shape := ⟨3, ![16, 1, 128]⟩
abbrev S128x512 : Shape := ⟨2, ![128, 512]⟩
abbrev S1x128x512 : Shape := ⟨3, ![1, 128, 512]⟩
abbrev S112x128 : Shape := ⟨2, ![112, 128]⟩
abbrev S128x128 : Shape := ⟨2, ![128, 128]⟩
abbrev S128x16 : Shape := ⟨2, ![128, 16]⟩
abbrev S1x128x16 : Shape := ⟨3, ![1, 128, 16]⟩

abbrev nBuf : Space → Nat
  | .hbm => 13
  | .vmem => 26
  | .smem => 0
  | _ => 0

abbrev bufTy : (tb : Table) → Fin (tcTables nBuf tb) → BufTy
  | .hbm, ⟨0, _⟩ => ⟨S7x512x3072, .bf16⟩
  | .hbm, ⟨1, _⟩ => ⟨S7x3072x512, .bf16⟩
  | .hbm, ⟨2, _⟩ => ⟨S7x512x3072, .bf16⟩
  | .hbm, ⟨3, _⟩ => ⟨S7x3072x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S7x3072x512, .bf16⟩
  | .hbm, ⟨10, _⟩ => ⟨S7x3072x512, .bf16⟩
  | .hbm, ⟨11, _⟩ => ⟨S7x3072x512, .fp8e4m3⟩
  | .hbm, ⟨12, _⟩ => ⟨S7x3072x16, .f32⟩
  | .local _ .vmem, ⟨0, _⟩ => ⟨S1x512x512, .bf16⟩
  | .local _ .vmem, ⟨1, _⟩ => ⟨S1x512x512, .bf16⟩
  | .local _ .vmem, ⟨2, _⟩ => ⟨S1x3072x512, .bf16⟩
  | .local _ .vmem, ⟨3, _⟩ => ⟨S1x3072x512, .bf16⟩
  | .local _ .vmem, ⟨4, _⟩ => ⟨S1x512x3072, .bf16⟩
  | .local _ .vmem, ⟨5, _⟩ => ⟨S1x512x3072, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .fp8e4m3⟩
  | .local _ .vmem, ⟨9, _⟩ => ⟨S1x512, .f32⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .fp8e4m3⟩
  | .local _ .vmem, ⟨16, _⟩ => ⟨S1x512x512, .fp8e4m3⟩
  | .local _ .vmem, ⟨17, _⟩ => ⟨S1x512x16, .f32⟩
  | .local _ .vmem, ⟨18, _⟩ => ⟨S1x512x16, .f32⟩
  | .local _ .vmem, ⟨19, _⟩ => ⟨S3072x512, .f32⟩
  | .local _ .vmem, ⟨20, _⟩ => ⟨S3072x512, .f32⟩
  | .local _ .vmem, ⟨21, _⟩ => ⟨S8x512, .f32⟩
  | .local _ .vmem, ⟨22, _⟩ => ⟨S8x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | _, _ => ⟨S7x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![45], ![false]⟩

def k0_cond3 (i : grid0.Coords) : BitVec 1 :=
  let arg0 : BitVec 32 := BitVec.ofNat 32 (i 0).val
  let c42_i32 : BitVec 32 := 42#32
  let v6 : BitVec 1 := Scalar.cmpi .eq arg0 c42_i32
  let v7 : BitVec 32 := Scalar.extui v6
  let c0_i32_3 : BitVec 32 := 0#32
  let v8 : BitVec 1 := Scalar.cmpi .ne v7 c0_i32_3
  v8

def k0_cond5 (i : grid0.Coords) : BitVec 1 :=
  let arg0 : BitVec 32 := BitVec.ofNat 32 (i 0).val
  let c43_i32 : BitVec 32 := 43#32
  let v12 : BitVec 1 := Scalar.cmpi .eq arg0 c43_i32
  let v13 : BitVec 32 := Scalar.extui v12
  let c0_i32_5 : BitVec 32 := 0#32
  let v14 : BitVec 1 := Scalar.cmpi .ne v13 c0_i32_5
  v14

def k0_cond7 (i : grid0.Coords) : BitVec 1 :=
  let arg0 : BitVec 32 := BitVec.ofNat 32 (i 0).val
  let c44_i32 : BitVec 32 := 44#32
  let v18 : BitVec 1 := Scalar.cmpi .eq arg0 c44_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg0 : BitVec 32 := BitVec.ofNat 32 (i 0).val
  let c3_i32 : BitVec 32 := 3#32
  let v21 : BitVec 1 := Scalar.cmpi .sge arg0 c3_i32
  let c42_i32_8 : BitVec 32 := 42#32
  let v22 : BitVec 1 := Scalar.cmpi .slt arg0 c42_i32_8
  let v23 : BitVec 1 := Scalar.andi v21 v22
  let v24 : BitVec 32 := Scalar.extui v23
  let c0_i32_9 : BitVec 32 := 0#32
  let v25 : BitVec 1 := Scalar.cmpi .ne v24 c0_i32_9
  v25

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c41_i32 : BitVec 32 := 41#32
  let v1 : BitVec 32 := Scalar.maxsi c0_i32_0 v0
  let v2 : BitVec 32 := Scalar.minsi c41_i32 v1
  let c6_i32 : BitVec 32 := 6#32
  let v3 : BitVec 32 := Scalar.divsi v2 c6_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c6_i32 c0_i32_3
  let v10 : BitVec 32 := Scalar.extui v9
  let c0_i32_4 : BitVec 32 := 0#32
  let v11 : BitVec 1 := Scalar.cmpi .slt c6_i32 c0_i32_4
  let v12 : BitVec 32 := Scalar.extui v11
  let v13 : BitVec 32 := Scalar.subi v10 v12
  let v14 : BitVec 1 := Scalar.cmpi .ne v8 v13
  let v15 : BitVec 32 := Scalar.remsi v2 c6_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat, v29.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c41_i32 : BitVec 32 := 41#32
  let v1 : BitVec 32 := Scalar.maxsi c0_i32_0 v0
  let v2 : BitVec 32 := Scalar.minsi c41_i32 v1
  let c6_i32 : BitVec 32 := 6#32
  let v3 : BitVec 32 := Scalar.divsi v2 c6_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c6_i32 c0_i32_3
  let v10 : BitVec 32 := Scalar.extui v9
  let c0_i32_4 : BitVec 32 := 0#32
  let v11 : BitVec 1 := Scalar.cmpi .slt c6_i32 c0_i32_4
  let v12 : BitVec 32 := Scalar.extui v11
  let v13 : BitVec 32 := Scalar.subi v10 v12
  let v14 : BitVec 1 := Scalar.cmpi .ne v8 v13
  let v15 : BitVec 32 := Scalar.remsi v2 c6_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v19.toNat, c0_i32_12.toNat, c0_i32_13.toNat]

def cc0_transform_2 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c41_i32 : BitVec 32 := 41#32
  let v1 : BitVec 32 := Scalar.maxsi c0_i32 v0
  let v2 : BitVec 32 := Scalar.minsi c41_i32 v1
  let c6_i32 : BitVec 32 := 6#32
  let v3 : BitVec 32 := Scalar.divsi v2 c6_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c6_i32 c0_i32_2
  let v10 : BitVec 32 := Scalar.extui v9
  let c0_i32_3 : BitVec 32 := 0#32
  let v11 : BitVec 1 := Scalar.cmpi .slt c6_i32 c0_i32_3
  let v12 : BitVec 32 := Scalar.extui v11
  let v13 : BitVec 32 := Scalar.subi v10 v12
  let v14 : BitVec 1 := Scalar.cmpi .ne v8 v13
  let v15 : BitVec 32 := Scalar.remsi v2 c6_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c6_i32_5 : BitVec 32 := 6#32
  let c0_i32_6 : BitVec 32 := 0#32
  let v20 : BitVec 1 := Scalar.cmpi .eq c6_i32_5 c0_i32_6
  let c1_i32_7 : BitVec 32 := 1#32
  let v21 : BitVec 32 := Scalar.select v20 c1_i32_7 c6_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  ![v19.toNat, c0_i32_11.toNat, c0_i32_12.toNat]

def cc0_transform_3 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c41_i32 : BitVec 32 := 41#32
  let v1 : BitVec 32 := Scalar.maxsi c0_i32 v0
  let v2 : BitVec 32 := Scalar.minsi c41_i32 v1
  let c6_i32 : BitVec 32 := 6#32
  let v3 : BitVec 32 := Scalar.divsi v2 c6_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c6_i32 c0_i32_2
  let v10 : BitVec 32 := Scalar.extui v9
  let c0_i32_3 : BitVec 32 := 0#32
  let v11 : BitVec 1 := Scalar.cmpi .slt c6_i32 c0_i32_3
  let v12 : BitVec 32 := Scalar.extui v11
  let v13 : BitVec 32 := Scalar.subi v10 v12
  let v14 : BitVec 1 := Scalar.cmpi .ne v8 v13
  let v15 : BitVec 32 := Scalar.remsi v2 c6_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c6_i32_5 : BitVec 32 := 6#32
  let c0_i32_6 : BitVec 32 := 0#32
  let v20 : BitVec 1 := Scalar.cmpi .eq c6_i32_5 c0_i32_6
  let c1_i32_7 : BitVec 32 := 1#32
  let v21 : BitVec 32 := Scalar.select v20 c1_i32_7 c6_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c41_i32 : BitVec 32 := 41#32
  let v1 : BitVec 32 := Scalar.maxsi c0_i32 v0
  let v2 : BitVec 32 := Scalar.minsi c41_i32 v1
  let c6_i32 : BitVec 32 := 6#32
  let v3 : BitVec 32 := Scalar.divsi v2 c6_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c6_i32 c0_i32_2
  let v10 : BitVec 32 := Scalar.extui v9
  let c0_i32_3 : BitVec 32 := 0#32
  let v11 : BitVec 1 := Scalar.cmpi .slt c6_i32 c0_i32_3
  let v12 : BitVec 32 := Scalar.extui v11
  let v13 : BitVec 32 := Scalar.subi v10 v12
  let v14 : BitVec 1 := Scalar.cmpi .ne v8 v13
  let v15 : BitVec 32 := Scalar.remsi v2 c6_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c6_i32_5 : BitVec 32 := 6#32
  let c0_i32_6 : BitVec 32 := 0#32
  let v20 : BitVec 1 := Scalar.cmpi .eq c6_i32_5 c0_i32_6
  let c1_i32_7 : BitVec 32 := 1#32
  let v21 : BitVec 32 := Scalar.select v20 c1_i32_7 c6_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_8 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c41_i32 : BitVec 32 := 41#32
  let v1 : BitVec 32 := Scalar.maxsi c0_i32 v0
  let v2 : BitVec 32 := Scalar.minsi c41_i32 v1
  let c6_i32 : BitVec 32 := 6#32
  let v3 : BitVec 32 := Scalar.divsi v2 c6_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c6_i32 c0_i32_2
  let v10 : BitVec 32 := Scalar.extui v9
  let c0_i32_3 : BitVec 32 := 0#32
  let v11 : BitVec 1 := Scalar.cmpi .slt c6_i32 c0_i32_3
  let v12 : BitVec 32 := Scalar.extui v11
  let v13 : BitVec 32 := Scalar.subi v10 v12
  let v14 : BitVec 1 := Scalar.cmpi .ne v8 v13
  let v15 : BitVec 32 := Scalar.remsi v2 c6_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c6_i32_5 : BitVec 32 := 6#32
  let c0_i32_6 : BitVec 32 := 0#32
  let v20 : BitVec 1 := Scalar.cmpi .eq c6_i32_5 c0_i32_6
  let c1_i32_7 : BitVec 32 := 1#32
  let v21 : BitVec 32 := Scalar.select v20 c1_i32_7 c6_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_9 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c41_i32 : BitVec 32 := 41#32
  let v1 : BitVec 32 := Scalar.maxsi c0_i32 v0
  let v2 : BitVec 32 := Scalar.minsi c41_i32 v1
  let c6_i32 : BitVec 32 := 6#32
  let v3 : BitVec 32 := Scalar.divsi v2 c6_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c6_i32 c0_i32_2
  let v10 : BitVec 32 := Scalar.extui v9
  let c0_i32_3 : BitVec 32 := 0#32
  let v11 : BitVec 1 := Scalar.cmpi .slt c6_i32 c0_i32_3
  let v12 : BitVec 32 := Scalar.extui v11
  let v13 : BitVec 32 := Scalar.subi v10 v12
  let v14 : BitVec 1 := Scalar.cmpi .ne v8 v13
  let v15 : BitVec 32 := Scalar.remsi v2 c6_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c6_i32_5 : BitVec 32 := 6#32
  let c0_i32_6 : BitVec 32 := 0#32
  let v20 : BitVec 1 := Scalar.cmpi .eq c6_i32_5 c0_i32_6
  let c1_i32_7 : BitVec 32 := 1#32
  let v21 : BitVec 32 := Scalar.select v20 c1_i32_7 c6_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_10 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c41_i32 : BitVec 32 := 41#32
  let v1 : BitVec 32 := Scalar.maxsi c0_i32 v0
  let v2 : BitVec 32 := Scalar.minsi c41_i32 v1
  let c6_i32 : BitVec 32 := 6#32
  let v3 : BitVec 32 := Scalar.divsi v2 c6_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c6_i32 c0_i32_2
  let v10 : BitVec 32 := Scalar.extui v9
  let c0_i32_3 : BitVec 32 := 0#32
  let v11 : BitVec 1 := Scalar.cmpi .slt c6_i32 c0_i32_3
  let v12 : BitVec 32 := Scalar.extui v11
  let v13 : BitVec 32 := Scalar.subi v10 v12
  let v14 : BitVec 1 := Scalar.cmpi .ne v8 v13
  let v15 : BitVec 32 := Scalar.remsi v2 c6_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c6_i32_5 : BitVec 32 := 6#32
  let c0_i32_6 : BitVec 32 := 0#32
  let v20 : BitVec 1 := Scalar.cmpi .eq c6_i32_5 c0_i32_6
  let c1_i32_7 : BitVec 32 := 1#32
  let v21 : BitVec 32 := Scalar.select v20 c1_i32_7 c6_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "softmax_scale" => some (((Real.sqrt 512)⁻¹ * (Real.log 2)⁻¹ : ℝ) : EReal)
  | _ => none
-- ==== ReferenceIdeal.lean ====
abbrev S7x512x3072 : Shape := ⟨3, ![7, 512, 3072]⟩
abbrev S7x3072x512 : Shape := ⟨3, ![7, 3072, 512]⟩
abbrev S512x512 : Shape := ⟨2, ![512, 512]⟩
abbrev S512 : Shape := ⟨1, ![512]⟩
abbrev S7x3072x3072 : Shape := ⟨3, ![7, 3072, 3072]⟩
abbrev S_ : Shape := ⟨0, ![]⟩
abbrev S7x3072 : Shape := ⟨2, ![7, 3072]⟩
abbrev S7x3072x1 : Shape := ⟨3, ![7, 3072, 1]⟩
abbrev S7x3072x16x32 : Shape := ⟨4, ![7, 3072, 16, 32]⟩
abbrev S7x3072x16 : Shape := ⟨3, ![7, 3072, 16]⟩
abbrev S7x3072x16x1 : Shape := ⟨4, ![7, 3072, 16, 1]⟩
abbrev S1x512 : Shape := ⟨2, ![1, 512]⟩
abbrev S21504x512 : Shape := ⟨2, ![21504, 512]⟩

abbrev nBuf : Space → Nat
  | .hbm => 71
  | .vmem => 9
  | .smem => 0
  | _ => 0

abbrev bufTy : (tb : Table) → Fin (tcTables nBuf tb) → BufTy
  | .hbm, ⟨0, _⟩ => ⟨S7x512x3072, .bf16⟩
  | .hbm, ⟨1, _⟩ => ⟨S7x3072x512, .bf16⟩
  | .hbm, ⟨2, _⟩ => ⟨S7x512x3072, .bf16⟩
  | .hbm, ⟨3, _⟩ => ⟨S7x3072x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S7x3072x512, .bf16⟩
  | .hbm, ⟨8, _⟩ => ⟨S7x3072x512, .bf16⟩
  | .hbm, ⟨9, _⟩ => ⟨S7x3072x3072, .f32⟩
  | .hbm, ⟨10, _⟩ => ⟨S_, .f32⟩
  | .hbm, ⟨11, _⟩ => ⟨S_, .f32⟩
  | .hbm, ⟨12, _⟩ => ⟨S7x3072x3072, .f32⟩
  | .hbm, ⟨13, _⟩ => ⟨S7x3072x3072, .f32⟩
  | .hbm, ⟨14, _⟩ => ⟨S_, .f32⟩
  | .hbm, ⟨15, _⟩ => ⟨S7x3072, .f32⟩
  | .hbm, ⟨16, _⟩ => ⟨S7x3072x1, .f32⟩
  | .hbm, ⟨17, _⟩ => ⟨S7x3072x3072, .f32⟩
  | .hbm, ⟨18, _⟩ => ⟨S7x3072x3072, .f32⟩
  | .hbm, ⟨19, _⟩ => ⟨S7x3072x3072, .f32⟩
  | .hbm, ⟨20, _⟩ => ⟨S_, .f32⟩
  | .hbm, ⟨21, _⟩ => ⟨S7x3072, .f32⟩
  | .hbm, ⟨22, _⟩ => ⟨S7x3072x1, .f32⟩
  | .hbm, ⟨23, _⟩ => ⟨S_, .f32⟩
  | .hbm, ⟨24, _⟩ => ⟨S7x3072x1, .f32⟩
  | .hbm, ⟨25, _⟩ => ⟨S7x3072x1, .f32⟩
  | .hbm, ⟨26, _⟩ => ⟨S7x3072x3072, .f32⟩
  | .hbm, ⟨27, _⟩ => ⟨S7x3072x3072, .f32⟩
  | .hbm, ⟨28, _⟩ => ⟨S7x3072x3072, .bf16⟩
  | .hbm, ⟨29, _⟩ => ⟨S7x3072x512, .f32⟩
  | .hbm, ⟨30, _⟩ => ⟨S7x3072x16x32, .f32⟩
  | .hbm, ⟨31, _⟩ => ⟨S7x3072x16x32, .f32⟩
  | .hbm, ⟨32, _⟩ => ⟨S_, .f32⟩
  | .hbm, ⟨33, _⟩ => ⟨S7x3072x16, .f32⟩
  | .hbm, ⟨34, _⟩ => ⟨S_, .f32⟩
  | .hbm, ⟨35, _⟩ => ⟨S7x3072x16, .f32⟩
  | .hbm, ⟨36, _⟩ => ⟨S7x3072x16, .f32⟩
  | .hbm, ⟨37, _⟩ => ⟨S7x3072x16, .f32⟩
  | .hbm, ⟨38, _⟩ => ⟨S_, .f32⟩
  | .hbm, ⟨39, _⟩ => ⟨S_, .f32⟩
  | .hbm, ⟨40, _⟩ => ⟨S7x3072x16, .f32⟩
  | .hbm, ⟨41, _⟩ => ⟨S7x3072x16, .f32⟩
  | .hbm, ⟨42, _⟩ => ⟨S7x3072x16, .f32⟩
  | .hbm, ⟨43, _⟩ => ⟨S_, .f32⟩
  | .hbm, ⟨44, _⟩ => ⟨S7x3072x16, .f32⟩
  | .hbm, ⟨45, _⟩ => ⟨S7x3072x16, .f32⟩
  | .hbm, ⟨46, _⟩ => ⟨S_, .f32⟩
  | .hbm, ⟨47, _⟩ => ⟨S7x3072x16, .f32⟩
  | .hbm, ⟨48, _⟩ => ⟨S7x3072x16, .i1⟩
  | .hbm, ⟨49, _⟩ => ⟨S_, .f32⟩
  | .hbm, ⟨50, _⟩ => ⟨S7x3072x16, .f32⟩
  | .hbm, ⟨51, _⟩ => ⟨S7x3072x16, .i1⟩
  | .hbm, ⟨52, _⟩ => ⟨S7x3072x16, .i1⟩
  | .hbm, ⟨53, _⟩ => ⟨S_, .f32⟩
  | .hbm, ⟨54, _⟩ => ⟨S7x3072x16, .f32⟩
  | .hbm, ⟨55, _⟩ => ⟨S7x3072x16, .f32⟩
  | .hbm, ⟨56, _⟩ => ⟨S_, .f32⟩
  | .hbm, ⟨57, _⟩ => ⟨S7x3072x16, .f32⟩
  | .hbm, ⟨58, _⟩ => ⟨S7x3072x16, .f32⟩
  | .hbm, ⟨59, _⟩ => ⟨S_, .f32⟩
  | .hbm, ⟨60, _⟩ => ⟨S_, .f32⟩
  | .hbm, ⟨61, _⟩ => ⟨S7x3072x16, .f32⟩
  | .hbm, ⟨62, _⟩ => ⟨S7x3072x16, .f32⟩
  | .hbm, ⟨63, _⟩ => ⟨S7x3072x16x1, .f32⟩
  | .hbm, ⟨64, _⟩ => ⟨S7x3072x16x32, .f32⟩
  | .hbm, ⟨65, _⟩ => ⟨S7x3072x512, .f32⟩
  | .hbm, ⟨66, _⟩ => ⟨S1x512, .f32⟩
  | .hbm, ⟨67, _⟩ => ⟨S1x512, .f32⟩
  | .hbm, ⟨68, _⟩ => ⟨S7x3072x512, .bf16⟩
  | .hbm, ⟨69, _⟩ => ⟨S7x3072x512, .bf16⟩
  | .hbm, ⟨70, _⟩ => ⟨S7x3072x512, .fp8e4m3⟩
  | .local _ .vmem, ⟨0, _⟩ => ⟨S7x3072x512, .f32⟩
  | .local _ .vmem, ⟨1, _⟩ => ⟨S7x3072x512, .f32⟩
  | .local _ .vmem, ⟨2, _⟩ => ⟨S7x3072x512, .bf16⟩
  | .local _ .vmem, ⟨3, _⟩ => ⟨S512x512, .fp8e4m3⟩
  | .local _ .vmem, ⟨4, _⟩ => ⟨S1x512, .f32⟩
  | .local _ .vmem, ⟨5, _⟩ => ⟨S1x512, .f32⟩
  | .local _ .vmem, ⟨6, _⟩ => ⟨S7x3072x512, .bf16⟩
  | .local _ .vmem, ⟨7, _⟩ => ⟨S7x3072x512, .bf16⟩
  | .local _ .vmem, ⟨8, _⟩ => ⟨S7x3072x512, .fp8e4m3⟩
  | _, _ => ⟨S7x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_call0_v0 : Ref sig .tc := ⟨.hbm, 60, rfl⟩
abbrev main_call0_v1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev main_v46_2 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7x3072x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x3072x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x3072x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x3072x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x3072x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x3072x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Printed.Conds.lean ====
/- What the seven runs of the attention kernel's body share: the branch conditions of the body in closed form over the
   45 grid points, the windows' staging buffers at a point, and the seven scratch buffers. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 45 = 0 :=
  (fun t => by
    have ht : t.val < 45 := Nat.lt_of_lt_of_eq t.isLt N_0
    have e0 : (grid0.coords t 0).val = t.val / 1 % 45 := Pipeline.Grid.coords_val t 0 (by decide) rfl
    simp only [cond0_0, e0]
    word_cmp
   : ∀ t : Fin grid0.N, cond0_0 (grid0.coords t) ↔ t.val % 45 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 45 = 0 :=
  (fun t => by
    have ht : t.val < 45 := Nat.lt_of_lt_of_eq t.isLt N_0
    have e0 : (grid0.coords t 0).val = t.val / 1 % 45 := Pipeline.Grid.coords_val t 0 (by decide) rfl
    simp only [cond0_1, e0]
    word_cmp
   : ∀ t : Fin grid0.N, cond0_1 (grid0.coords t) ↔ t.val % 45 = 0)

/-- The condition of the body's `scf.if` 2 (`k0_h3`), from the grid coordinates (the skeleton's scalar
    chain substituted). -/
abbrev cond0_2 (i : grid0.Coords) : Prop := k0_cond3 i = 1#1
/-- It holds at point 42 only — by arithmetic of the point. -/
theorem hcond0_2 : ∀ t : Fin cfg0.N, cond0_2 (grid0.coords t) ↔ t.val % 45 = 42 :=
  (fun t => by
    have ht : t.val < 45 := Nat.lt_of_lt_of_eq t.isLt N_0
    have e0 : (grid0.coords t 0).val = t.val / 1 % 45 := Pipeline.Grid.coords_val t 0 (by decide) rfl
    simp only [cond0_2, k0_cond3, e0]
    word_cmp
   : ∀ t : Fin grid0.N, cond0_2 (grid0.coords t) ↔ t.val % 45 = 42)

/-- The condition of the body's `scf.if` 3 (`k0_h4`), from the grid coordinates (the skeleton's scalar
    chain substituted). -/
abbrev cond0_3 (i : grid0.Coords) : Prop := (Scalar.cmpi .ne (Scalar.extui (Scalar.cmpi .eq (BitVec.ofNat 32 (i 0).val) 1#32)) 0#32) = 1#1
/-- It holds at point 1 only — by arithmetic of the point. -/
theorem hcond0_3 : ∀ t : Fin cfg0.N, cond0_3 (grid0.coords t) ↔ t.val % 45 = 1 :=
  (fun t => by
    have ht : t.val < 45 := Nat.lt_of_lt_of_eq t.isLt N_0
    have e0 : (grid0.coords t 0).val = t.val / 1 % 45 := Pipeline.Grid.coords_val t 0 (by decide) rfl
    simp only [cond0_3, e0]
    word_cmp
   : ∀ t : Fin grid0.N, cond0_3 (grid0.coords t) ↔ t.val % 45 = 1)

/-- The condition of the body's `scf.if` 4 (`k0_h5`), from the grid coordinates (the skeleton's scalar
    chain substituted). -/
abbrev cond0_4 (i : grid0.Coords) : Prop := k0_cond5 i = 1#1
/-- It holds at point 43 only — by arithmetic of the point. -/
theorem hcond0_4 : ∀ t : Fin cfg0.N, cond0_4 (grid0.coords t) ↔ t.val % 45 = 43 :=
  (fun t => by
    have ht : t.val < 45 := Nat.lt_of_lt_of_eq t.isLt N_0
    have e0 : (grid0.coords t 0).val = t.val / 1 % 45 := Pipeline.Grid.coords_val t 0 (by decide) rfl
    simp only [cond0_4, k0_cond5, e0]
    word_cmp
   : ∀ t : Fin grid0.N, cond0_4 (grid0.coords t) ↔ t.val % 45 = 43)

/-- The condition of the body's `scf.if` 5 (`k0_h6`), from the grid coordinates (the skeleton's scalar
    chain substituted). -/
abbrev cond0_5 (i : grid0.Coords) : Prop := (Scalar.cmpi .ne (Scalar.extui (Scalar.cmpi .eq (BitVec.ofNat 32 (i 0).val) 2#32)) 0#32) = 1#1
/-- It holds at point 2 only — by arithmetic of the point. -/
theorem hcond0_5 : ∀ t : Fin cfg0.N, cond0_5 (grid0.coords t) ↔ t.val % 45 = 2 :=
  (fun t => by
    have ht : t.val < 45 := Nat.lt_of_lt_of_eq t.isLt N_0
    have e0 : (grid0.coords t 0).val = t.val / 1 % 45 := Pipeline.Grid.coords_val t 0 (by decide) rfl
    simp only [cond0_5, e0]
    word_cmp
   : ∀ t : Fin grid0.N, cond0_5 (grid0.coords t) ↔ t.val % 45 = 2)

/-- The condition of the body's `scf.if` 6 (`k0_h7`), from the grid coordinates (the skeleton's scalar
    chain substituted). -/
abbrev cond0_6 (i : grid0.Coords) : Prop := k0_cond7 i = 1#1
/-- It holds at the last point only — by arithmetic of the point. -/
theorem hcond0_6 : ∀ t : Fin cfg0.N, cond0_6 (grid0.coords t) ↔ t.val % 45 = 44 :=
  (fun t => by
    have ht : t.val < 45 := Nat.lt_of_lt_of_eq t.isLt N_0
    have e0 : (grid0.coords t 0).val = t.val / 1 % 45 := Pipeline.Grid.coords_val t 0 (by decide) rfl
    simp only [cond0_6, k0_cond7, e0]
    word_cmp
   : ∀ t : Fin grid0.N, cond0_6 (grid0.coords t) ↔ t.val % 45 = 44)

/-- The condition of the body's `scf.if` 7 (`k0_h8`), from the grid coordinates (the skeleton's scalar
    chain substituted). -/
abbrev cond0_7 (i : grid0.Coords) : Prop := k0_cond8 i = 1#1
/-- It holds at the points whose coordinates have 3 ≤ i0 and i0 ≤ 41 — decided over the grid. -/
theorem hcond0_7 : ∀ t : Fin cfg0.N, cond0_7 (grid0.coords t) ↔ (3 ≤ t.val % 45 ∧ t.val % 45 ≤ 41) :=
  (by decide +kernel : ∀ t : Fin grid0.N, cond0_7 (grid0.coords t) ↔ (3 ≤ t.val % 45 ∧ t.val % 45 ≤ 41))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x16 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S3072x512 .f32 := Memref.whole cc0_scratch0
abbrev scM0_1 : Memref sig .tc .vmem S3072x512 .f32 := Memref.whole cc0_scratch1
abbrev scM0_2 : Memref sig .tc .vmem S8x512 .f32 := Memref.whole cc0_scratch2
abbrev scM0_3 : Memref sig .tc .vmem S8x512 .f32 := Memref.whole cc0_scratch3
abbrev scM0_4 : Memref sig .tc .vmem S512x512 .f32 := Memref.whole cc0_scratch4
abbrev scM0_5 : Memref sig .tc .vmem S512x512 .bf16 := Memref.whole cc0_scratch5
abbrev scM0_6 : Memref sig .tc .vmem S512x512 .bf16 := Memref.whole cc0_scratch6
/-- The scratch `arg12` the kernel carries between points, as a view: what it holds is stated through it. -/
abbrev VS0_0 : View sig .tc .vmem S3072x512 .f32 := scM0_0.view
/-- The scratch `arg13` the kernel carries between points, as a view: what it holds is stated through it. -/
abbrev VS0_1 : View sig .tc .vmem S3072x512 .f32 := scM0_1.view
/-- The scratch `arg14` the kernel carries between points, as a view: what it holds is stated through it. -/
abbrev VS0_2 : View sig .tc .vmem S8x512 .f32 := scM0_2.view
/-- The scratch `arg15` the kernel carries between points, as a view: what it holds is stated through it. -/
abbrev VS0_3 : View sig .tc .vmem S8x512 .f32 := scM0_3.view
/-- The scratch `arg16` the kernel carries between points, as a view: what it holds is stated through it. -/
abbrev VS0_4 : View sig .tc .vmem S512x512 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.Printed.Held.lean ====
/- The eighteen buffers the attention kernel's body is called with, held at named contents. -/
module

public import proofs.«01_k».proof.Proof.Printed.Conds

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body is called with: seven input windows, four output windows, seven scratch buffers. -/
structure Mems where
  a1 : Memref sig .tc .vmem S1x512x512 .bf16
  h1 : a1.IsWhole
  a2 : Memref sig .tc .vmem S1x3072x512 .bf16
  h2 : a2.IsWhole
  a3 : Memref sig .tc .vmem S1x512x3072 .bf16
  h3 : a3.IsWhole
  a4 : Memref sig .tc .vmem S1x512x512 .bf16
  h4 : a4.IsWhole
  a5 : Memref sig .tc .vmem S512x512 .fp8e4m3
  h5 : a5.IsWhole
  a6 : Memref sig .tc .vmem S1x512 .f32
  h6 : a6.IsWhole
  a7 : Memref sig .tc .vmem S1x512 .f32
  h7 : a7.IsWhole
  a8 : Memref sig .tc .vmem S1x512x512 .bf16
  h8 : a8.IsWhole
  a9 : Memref sig .tc .vmem S1x512x512 .bf16
  h9 : a9.IsWhole
  a10 : Memref sig .tc .vmem S1x512x512 .fp8e4m3
  h10 : a10.IsWhole
  a11 : Memref sig .tc .vmem S1x512x16 .f32
  h11 : a11.IsWhole
  a12 : Memref sig .tc .vmem S3072x512 .f32
  h12 : a12.IsWhole
  a13 : Memref sig .tc .vmem S3072x512 .f32
  h13 : a13.IsWhole
  a14 : Memref sig .tc .vmem S8x512 .f32
  h14 : a14.IsWhole
  a15 : Memref sig .tc .vmem S8x512 .f32
  h15 : a15.IsWhole
  a16 : Memref sig .tc .vmem S512x512 .f32
  h16 : a16.IsWhole
  a17 : Memref sig .tc .vmem S512x512 .bf16
  h17 : a17.IsWhole
  a18 : Memref sig .tc .vmem S512x512 .bf16
  h18 : a18.IsWhole

/-- What the buffers hold: the inputs `x`, the outputs `y`, the scratch `s`. -/
structure Vals (F : FTy → Type) where
  x0 : Vec F S1x512x512 .bf16
  x1 : Vec F S1x3072x512 .bf16
  x2 : Vec F S1x512x3072 .bf16
  x3 : Vec F S1x512x512 .bf16
  x4 : Vec F S512x512 .fp8e4m3
  x5 : Vec F S1x512 .f32
  x6 : Vec F S1x512 .f32
  y0 : Vec F S1x512x512 .bf16
  y1 : Vec F S1x512x512 .bf16
  y2 : Vec F S1x512x512 .fp8e4m3
  y3 : Vec F S1x512x16 .f32
  s0 : Vec F S3072x512 .f32
  s1 : Vec F S3072x512 .f32
  s2 : Vec F S8x512 .f32
  s3 : Vec F S8x512 .f32
  s4 : Vec F S512x512 .f32
  s5 : Vec F S512x512 .bf16
  s6 : Vec F S512x512 .bf16

/-- The buffers of `B` held at the contents `v`, on core `c`. -/
def Mems.held (B : Mems) (c : Dev nD) (v : Vals F) : sProp 𝕄 :=
  iprop(owns (c : Thread nD τ) B.a1 fullShare v.x0 ∗ owns (c : Thread nD τ) B.a2 fullShare v.x1 ∗ owns (c : Thread nD τ) B.a3 fullShare v.x2 ∗ owns (c : Thread nD τ) B.a4 fullShare v.x3 ∗ owns (c : Thread nD τ) B.a5 fullShare v.x4 ∗ owns (c : Thread nD τ) B.a6 fullShare v.x5 ∗ owns (c : Thread nD τ) B.a7 fullShare v.x6 ∗ owns (c : Thread nD τ) B.a8 fullShare v.y0 ∗ owns (c : Thread nD τ) B.a9 fullShare v.y1 ∗ owns (c : Thread nD τ) B.a10 fullShare v.y2 ∗ owns (c : Thread nD τ) B.a11 fullShare v.y3 ∗ owns (c : Thread nD τ) B.a12 fullShare v.s0 ∗ owns (c : Thread nD τ) B.a13 fullShare v.s1 ∗ owns (c : Thread nD τ) B.a14 fullShare v.s2 ∗ owns (c : Thread nD τ) B.a15 fullShare v.s3 ∗ owns (c : Thread nD τ) B.a16 fullShare v.s4 ∗ owns (c : Thread nD τ) B.a17 fullShare v.s5 ∗ owns (c : Thread nD τ) B.a18 fullShare v.s6)

/-- The kernel's body at grid point `i` on the buffers of `B`. -/
abbrev bodyOn (B : Mems) (i : grid0.Coords) :=
  cc0_attn_out (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18

/-- The same buffers after the body: the inputs as they were, the rest at some contents. -/
def Mems.freed (B : Mems) (c : Dev nD) (v : Vals F) : sProp 𝕄 :=
  iprop(owns (c : Thread nD τ) B.a1 fullShare v.x0 ∗ owns (c : Thread nD τ) B.a2 fullShare v.x1 ∗ owns (c : Thread nD τ) B.a3 fullShare v.x2 ∗ owns (c : Thread nD τ) B.a4 fullShare v.x3 ∗ owns (c : Thread nD τ) B.a5 fullShare v.x4 ∗ owns (c : Thread nD τ) B.a6 fullShare v.x5 ∗ owns (c : Thread nD τ) B.a7 fullShare v.x6 ∗ (∃ d, owns (c : Thread nD τ) B.a8 fullShare d) ∗ (∃ d, owns (c : Thread nD τ) B.a9 fullShare d) ∗ (∃ d, owns (c : Thread nD τ) B.a10 fullShare d) ∗ (∃ d, owns (c : Thread nD τ) B.a11 fullShare d) ∗ (∃ d, owns (c : Thread nD τ) B.a12 fullShare d) ∗ (∃ d, owns (c : Thread nD τ) B.a13 fullShare d) ∗ (∃ d, owns (c : Thread nD τ) B.a14 fullShare d) ∗ (∃ d, owns (c : Thread nD τ) B.a15 fullShare d) ∗ (∃ d, owns (c : Thread nD τ) B.a16 fullShare d) ∗ (∃ d, owns (c : Thread nD τ) B.a17 fullShare d) ∗ (∃ d, owns (c : Thread nD τ) B.a18 fullShare d))

end Cert.Kernel.Gen

end
-- ==== Proof.Printed.RunA.lean ====
/- The run of the attention kernel's body at the first point: the scores of the first block, and the weight in bf16. -/
module

public import proofs.«01_k».proof.Proof.Printed.Held

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem runA (B : Mems) (c : Dev nD) (i : grid0.Coords) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (v : Vals F) (E : Set ℕ) (K : PUnit → sProp 𝕄) :
    iprop(B.held c v ∗ (B.freed c v -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Mems.freed, cc0_attn_out_eq_skeleton]; unfold cc0_attn_out_skel
  simp only [k0_part1_eq_skeleton, k0_part2_eq_skeleton, k0_part3_eq_skeleton, k0_part4_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Gen

end
-- ==== Proof.Printed.RunB.lean ====
/- The run of the attention kernel's body at the second point: QK and EX. -/
module

public import proofs.«01_k».proof.Proof.Printed.Held

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem runB (B : Mems) (c : Dev nD) (i : grid0.Coords) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (v : Vals F) (E : Set ℕ) (K : PUnit → sProp 𝕄) :
    iprop(B.held c v ∗ (B.freed c v -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Mems.freed, cc0_attn_out_eq_skeleton]; unfold cc0_attn_out_skel
  simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Gen

end
-- ==== Proof.Printed.RunC.lean ====
/- The run of the attention kernel's body at the third point: QK, EX and PV. -/
module

public import proofs.«01_k».proof.Proof.Printed.Held

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem runC (B : Mems) (c : Dev nD) (i : grid0.Coords) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (v : Vals F) (E : Set ℕ) (K : PUnit → sProp 𝕄) :
    iprop(B.held c v ∗ (B.freed c v -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Mems.freed, cc0_attn_out_eq_skeleton]; unfold cc0_attn_out_skel
  simp only [k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Gen

end
-- ==== Proof.Printed.RunD.lean ====
/- The run of the attention kernel's body at an inner point: all four stages. -/
module

public import proofs.«01_k».proof.Proof.Printed.Held

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem runD (B : Mems) (c : Dev nD) (i : grid0.Coords) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i)
    (v : Vals F) (E : Set ℕ) (K : PUnit → sProp 𝕄) :
    iprop(B.held c v ∗ (B.freed c v -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Mems.freed, cc0_attn_out_eq_skeleton]; unfold cc0_attn_out_skel
  rw [k0_part101_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Gen

end
-- ==== Proof.Printed.RunE.lean ====
/- The run of the attention kernel's body at the first point of the tail: EX, PV and the epilogue. -/
module

public import proofs.«01_k».proof.Proof.Printed.Held

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem runE (B : Mems) (c : Dev nD) (i : grid0.Coords) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    (v : Vals F) (E : Set ℕ) (K : PUnit → sProp 𝕄) :
    iprop(B.held c v ∗ (B.freed c v -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Mems.freed, cc0_attn_out_eq_skeleton]; unfold cc0_attn_out_skel
  simp only [k0_part25_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Gen

end
-- ==== Proof.Printed.RunF.lean ====
/- The run of the attention kernel's body at the second point of the tail: PV and the epilogue. -/
module

public import proofs.«01_k».proof.Proof.Printed.Held

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem runF (B : Mems) (c : Dev nD) (i : grid0.Coords) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (v : Vals F) (E : Set ℕ) (K : PUnit → sProp 𝕄) :
    iprop(B.held c v ∗ (B.freed c v -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Mems.freed, cc0_attn_out_eq_skeleton]; unfold cc0_attn_out_skel
  simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Gen

end
-- ==== Proof.Printed.RunG.lean ====
/- The run of the attention kernel's body at the last point: the epilogue. -/
module

public import proofs.«01_k».proof.Proof.Printed.Held

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem runG (B : Mems) (c : Dev nD) (i : grid0.Coords) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (v : Vals F) (E : Set ℕ) (K : PUnit → sProp 𝕄) :
    iprop(B.held c v ∗ (B.freed c v -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Mems.freed, cc0_attn_out_eq_skeleton]; unfold cc0_attn_out_skel
  simp only [k0_part75_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  iexists _; iexists _; isplitr; swap; · iexact H18
  ipureintro; rfl

end Cert.Kernel.Gen

end
-- ==== Proof.Printed.Frame.lean ====
/- The frame of the kernel as printed: it runs to completion and leaves its arguments as launched. Nothing is said of what it
   computes; the outputs and the scratch buffers are held at some contents throughout. -/
module

public import proofs.«01_k».proof.Proof.Printed.RunA
public import proofs.«01_k».proof.Proof.Printed.RunB
public import proofs.«01_k».proof.Proof.Printed.RunC
public import proofs.«01_k».proof.Proof.Printed.RunD
public import proofs.«01_k».proof.Proof.Printed.RunE
public import proofs.«01_k».proof.Proof.Printed.RunF
public import proofs.«01_k».proof.Proof.Printed.RunG

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said: the outputs. -/
def forgets0 (w : Fin cfg0.W) : Bool := decide (7 ≤ w.val)

/-- The pipeline's proof data: inputs left in place, scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- The buffers the body is called with at point `t`. -/
def memsAt (t : Fin cfg0.N) : Mems := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _⟩

/-- A run of the body gives the pipeline's obligation at its point. -/
theorem body_of (c : Dev nD) (t : Fin cfg0.N)
    (hrun : ∀ (v : Vals F) (E : Set ℕ) (K : PUnit → sProp 𝕄), iprop((memsAt t).held c v ∗ ((memsAt t).freed c v -∗ K ⟨⟩))
      ⊢ wp frame (wpE (defs₀ (F := F)) Variants.none c none) E (bodyOn (memsAt t) (grid0.coords t)) K) :
    bodyPre m c t ⊢ wp frame (wpE (defs₀ (F := F)) Variants.none c none) Set.univ (bodyAt0 t) fun _ => bodyPost m c t := by
  unfold bodyPre bodyPost
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, PhiA0_eq]
  simp only [before0_0, after0_0, before0_1, after0_1, before0_2, after0_2, before0_3, after0_3, before0_4, after0_4, before0_5, after0_5, before0_6, after0_6]
  iintro ⟨⟨⟨⟨%s0, S0⟩, ⟨%s1, S1⟩, ⟨%s2, S2⟩, ⟨%s3, S3⟩, ⟨%s4, S4⟩, ⟨%s5, S5⟩, ⟨%s6, S6⟩⟩, Hg⟩, Ho, ⟨%d0, X0⟩, ⟨%d1, X1⟩, ⟨%d2, X2⟩, ⟨%d3, X3⟩, ⟨%d4, X4⟩, ⟨%d5, X5⟩, ⟨%d6, X6⟩, ⟨%d7, X7⟩, ⟨%d8, X8⟩, ⟨%d9, X9⟩, ⟨%d10, X10⟩⟩
  iapply (hrun (⟨iblk m c 0 t, iblk m c 1 t, iblk m c 2 t, iblk m c 3 t, iblk m c 4 t, iblk m c 5 t, iblk m c 6 t, d7, d8, d9, d10, s0, s1, s2, s3, s4, s5, s6⟩ : Vals F) Set.univ _)
  isplitl [X0 X1 X2 X3 X4 X5 X6 X7 X8 X9 X10 S0 S1 S2 S3 S4 S5 S6]
  · unfold Mems.held memsAt
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [S0]; · iexact S0
    isplitl [S1]; · iexact S1
    isplitl [S2]; · iexact S2
    isplitl [S3]; · iexact S3
    isplitl [S4]; · iexact S4
    isplitl [S5]; · iexact S5
    iexact S6
  unfold Mems.freed memsAt
  iintro ⟨X0, X1, X2, X3, X4, X5, X6, X7, X8, X9, X10, S0, S1, S2, S3, S4, S5, S6⟩
  isplitl [Hg S0 S1 S2 S3 S4 S5 S6]
  · isplitr [Hg]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X8]; · iexact X8
  isplitl [X9]; · iexact X9
  iexact X10

/-- The body's triple at every point. -/
theorem sound_body (c : Dev nD) (t : Fin cfg0.N) :
    bodyPre m c t ⊢ wp frame (wpE (defs₀ (F := F)) Variants.none c none) Set.univ (bodyAt0 t) fun _ => bodyPost m c t := by
  have hN : t.val < 45 := lt_of_lt_of_eq t.isLt N_0
  have k0 := hcond0_0 t; have k1 := hcond0_1 t; have k2 := hcond0_2 t; have k3 := hcond0_3 t
  have k4 := hcond0_4 t; have k5 := hcond0_5 t; have k6 := hcond0_6 t; have k7 := hcond0_7 t
  rw [Nat.mod_eq_of_lt hN] at k0 k1 k2 k3 k4 k5 k6 k7
  by_cases hA : t.val = 0
  · exact body_of m c t (fun v E K => runA (memsAt t) c (grid0.coords t) (k0.mpr (by omega)) (k1.mpr (by omega)) (fun h => absurd (k2.mp h) (by omega)) (fun h => absurd (k3.mp h) (by omega)) (fun h => absurd (k4.mp h) (by omega)) (fun h => absurd (k5.mp h) (by omega)) (fun h => absurd (k6.mp h) (by omega)) (fun h => absurd (k7.mp h) (by omega)) v E K)
  by_cases hB : t.val = 1
  · exact body_of m c t (fun v E K => runB (memsAt t) c (grid0.coords t) (fun h => absurd (k0.mp h) (by omega)) (fun h => absurd (k1.mp h) (by omega)) (fun h => absurd (k2.mp h) (by omega)) (k3.mpr (by omega)) (fun h => absurd (k4.mp h) (by omega)) (fun h => absurd (k5.mp h) (by omega)) (fun h => absurd (k6.mp h) (by omega)) (fun h => absurd (k7.mp h) (by omega)) v E K)
  by_cases hC : t.val = 2
  · exact body_of m c t (fun v E K => runC (memsAt t) c (grid0.coords t) (fun h => absurd (k0.mp h) (by omega)) (fun h => absurd (k1.mp h) (by omega)) (fun h => absurd (k2.mp h) (by omega)) (fun h => absurd (k3.mp h) (by omega)) (fun h => absurd (k4.mp h) (by omega)) (k5.mpr (by omega)) (fun h => absurd (k6.mp h) (by omega)) (fun h => absurd (k7.mp h) (by omega)) v E K)
  by_cases hD : 3 ≤ t.val ∧ t.val ≤ 41
  · exact body_of m c t (fun v E K => runD (memsAt t) c (grid0.coords t) (fun h => absurd (k0.mp h) (by omega)) (fun h => absurd (k1.mp h) (by omega)) (fun h => absurd (k2.mp h) (by omega)) (fun h => absurd (k3.mp h) (by omega)) (fun h => absurd (k4.mp h) (by omega)) (fun h => absurd (k5.mp h) (by omega)) (fun h => absurd (k6.mp h) (by omega)) (k7.mpr (by omega)) v E K)
  by_cases hE : t.val = 42
  · exact body_of m c t (fun v E K => runE (memsAt t) c (grid0.coords t) (fun h => absurd (k0.mp h) (by omega)) (fun h => absurd (k1.mp h) (by omega)) (k2.mpr (by omega)) (fun h => absurd (k3.mp h) (by omega)) (fun h => absurd (k4.mp h) (by omega)) (fun h => absurd (k5.mp h) (by omega)) (fun h => absurd (k6.mp h) (by omega)) (fun h => absurd (k7.mp h) (by omega)) v E K)
  by_cases hF : t.val = 43
  · exact body_of m c t (fun v E K => runF (memsAt t) c (grid0.coords t) (fun h => absurd (k0.mp h) (by omega)) (fun h => absurd (k1.mp h) (by omega)) (fun h => absurd (k2.mp h) (by omega)) (fun h => absurd (k3.mp h) (by omega)) (k4.mpr (by omega)) (fun h => absurd (k5.mp h) (by omega)) (fun h => absurd (k6.mp h) (by omega)) (fun h => absurd (k7.mp h) (by omega)) v E K)
  by_cases hG : t.val = 44
  · exact body_of m c t (fun v E K => runG (memsAt t) c (grid0.coords t) (fun h => absurd (k0.mp h) (by omega)) (fun h => absurd (k1.mp h) (by omega)) (fun h => absurd (k2.mp h) (by omega)) (fun h => absurd (k3.mp h) (by omega)) (fun h => absurd (k4.mp h) (by omega)) (fun h => absurd (k5.mp h) (by omega)) (k6.mpr (by omega)) (fun h => absurd (k7.mp h) (by omega)) v E K)
  omega

/-- The body as the pipeline calls it. -/
theorem defs₀_row (t : Fin cfg0.N) : (defs₀ (F := F)) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the pipeline's arrays at what the windows leave, everything else as found, every semaphore at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: every run ends, with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => by
    refine ⟨fun c => ?_, h.2⟩
    have hi := Pipeline.RDat.FramePost.arr_in (cfg₁ := cfgs 0) h.1 c
    exact ⟨
      (hi 0 rfl).trans ((A_eq m c 0).trans (V_main_arg0 m c)),
      (hi 1 rfl).trans ((A_eq m c 1).trans (V_main_arg1 m c)),
      (hi 2 rfl).trans ((A_eq m c 2).trans (V_main_arg2 m c)),
      (hi 3 rfl).trans ((A_eq m c 3).trans (V_main_arg3 m c)),
      (hi 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩) (run_main m ρ)

end Cert.Kernel.Gen

end
-- ==== Proof.Attn.Conds.lean ====
/- What the seven runs of the attention kernel's body share: the branch conditions of the body in closed form over the
   45 grid points, the windows' staging buffers at a point, and the seven scratch buffers. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 45 = 0 :=
  (fun t => by
    have ht : t.val < 45 := Nat.lt_of_lt_of_eq t.isLt N_0
    have e0 : (grid0.coords t 0).val = t.val / 1 % 45 := Pipeline.Grid.coords_val t 0 (by decide) rfl
    simp only [cond0_0, e0]
    word_cmp
   : ∀ t : Fin grid0.N, cond0_0 (grid0.coords t) ↔ t.val % 45 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 45 = 0 :=
  (fun t => by
    have ht : t.val < 45 := Nat.lt_of_lt_of_eq t.isLt N_0
    have e0 : (grid0.coords t 0).val = t.val / 1 % 45 := Pipeline.Grid.coords_val t 0 (by decide) rfl
    simp only [cond0_1, e0]
    word_cmp
   : ∀ t : Fin grid0.N, cond0_1 (grid0.coords t) ↔ t.val % 45 = 0)

/-- The condition of the body's `scf.if` 2 (`k0_h3`), from the grid coordinates (the skeleton's scalar
    chain substituted). -/
abbrev cond0_2 (i : grid0.Coords) : Prop := k0_cond3 i = 1#1
/-- It holds at point 42 only — by arithmetic of the point. -/
theorem hcond0_2 : ∀ t : Fin cfg0.N, cond0_2 (grid0.coords t) ↔ t.val % 45 = 42 :=
  (fun t => by
    have ht : t.val < 45 := Nat.lt_of_lt_of_eq t.isLt N_0
    have e0 : (grid0.coords t 0).val = t.val / 1 % 45 := Pipeline.Grid.coords_val t 0 (by decide) rfl
    simp only [cond0_2, k0_cond3, e0]
    word_cmp
   : ∀ t : Fin grid0.N, cond0_2 (grid0.coords t) ↔ t.val % 45 = 42)

/-- The condition of the body's `scf.if` 3 (`k0_h4`), from the grid coordinates (the skeleton's scalar
    chain substituted). -/
abbrev cond0_3 (i : grid0.Coords) : Prop := (Scalar.cmpi .ne (Scalar.extui (Scalar.cmpi .eq (BitVec.ofNat 32 (i 0).val) 1#32)) 0#32) = 1#1
/-- It holds at point 1 only — by arithmetic of the point. -/
theorem hcond0_3 : ∀ t : Fin cfg0.N, cond0_3 (grid0.coords t) ↔ t.val % 45 = 1 :=
  (fun t => by
    have ht : t.val < 45 := Nat.lt_of_lt_of_eq t.isLt N_0
    have e0 : (grid0.coords t 0).val = t.val / 1 % 45 := Pipeline.Grid.coords_val t 0 (by decide) rfl
    simp only [cond0_3, e0]
    word_cmp
   : ∀ t : Fin grid0.N, cond0_3 (grid0.coords t) ↔ t.val % 45 = 1)

/-- The condition of the body's `scf.if` 4 (`k0_h5`), from the grid coordinates (the skeleton's scalar
    chain substituted). -/
abbrev cond0_4 (i : grid0.Coords) : Prop := k0_cond5 i = 1#1
/-- It holds at point 43 only — by arithmetic of the point. -/
theorem hcond0_4 : ∀ t : Fin cfg0.N, cond0_4 (grid0.coords t) ↔ t.val % 45 = 43 :=
  (fun t => by
    have ht : t.val < 45 := Nat.lt_of_lt_of_eq t.isLt N_0
    have e0 : (grid0.coords t 0).val = t.val / 1 % 45 := Pipeline.Grid.coords_val t 0 (by decide) rfl
    simp only [cond0_4, k0_cond5, e0]
    word_cmp
   : ∀ t : Fin grid0.N, cond0_4 (grid0.coords t) ↔ t.val % 45 = 43)

/-- The condition of the body's `scf.if` 5 (`k0_h6`), from the grid coordinates (the skeleton's scalar
    chain substituted). -/
abbrev cond0_5 (i : grid0.Coords) : Prop := (Scalar.cmpi .ne (Scalar.extui (Scalar.cmpi .eq (BitVec.ofNat 32 (i 0).val) 2#32)) 0#32) = 1#1
/-- It holds at point 2 only — by arithmetic of the point. -/
theorem hcond0_5 : ∀ t : Fin cfg0.N, cond0_5 (grid0.coords t) ↔ t.val % 45 = 2 :=
  (fun t => by
    have ht : t.val < 45 := Nat.lt_of_lt_of_eq t.isLt N_0
    have e0 : (grid0.coords t 0).val = t.val / 1 % 45 := Pipeline.Grid.coords_val t 0 (by decide) rfl
    simp only [cond0_5, e0]
    word_cmp
   : ∀ t : Fin grid0.N, cond0_5 (grid0.coords t) ↔ t.val % 45 = 2)

/-- The condition of the body's `scf.if` 6 (`k0_h7`), from the grid coordinates (the skeleton's scalar
    chain substituted). -/
abbrev cond0_6 (i : grid0.Coords) : Prop := k0_cond7 i = 1#1
/-- It holds at the last point only — by arithmetic of the point. -/
theorem hcond0_6 : ∀ t : Fin cfg0.N, cond0_6 (grid0.coords t) ↔ t.val % 45 = 44 :=
  (fun t => by
    have ht : t.val < 45 := Nat.lt_of_lt_of_eq t.isLt N_0
    have e0 : (grid0.coords t 0).val = t.val / 1 % 45 := Pipeline.Grid.coords_val t 0 (by decide) rfl
    simp only [cond0_6, k0_cond7, e0]
    word_cmp
   : ∀ t : Fin grid0.N, cond0_6 (grid0.coords t) ↔ t.val % 45 = 44)

/-- The condition of the body's `scf.if` 7 (`k0_h8`), from the grid coordinates (the skeleton's scalar
    chain substituted). -/
abbrev cond0_7 (i : grid0.Coords) : Prop := k0_cond8 i = 1#1
/-- It holds at the points whose coordinates have 3 ≤ i0 and i0 ≤ 41 — decided over the grid. -/
theorem hcond0_7 : ∀ t : Fin cfg0.N, cond0_7 (grid0.coords t) ↔ (3 ≤ t.val % 45 ∧ t.val % 45 ≤ 41) :=
  (by decide +kernel : ∀ t : Fin grid0.N, cond0_7 (grid0.coords t) ↔ (3 ≤ t.val % 45 ∧ t.val % 45 ≤ 41))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x16 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S3072x512 .f32 := Memref.whole cc0_scratch0
abbrev scM0_1 : Memref sig .tc .vmem S3072x512 .f32 := Memref.whole cc0_scratch1
abbrev scM0_2 : Memref sig .tc .vmem S8x512 .f32 := Memref.whole cc0_scratch2
abbrev scM0_3 : Memref sig .tc .vmem S8x512 .f32 := Memref.whole cc0_scratch3
abbrev scM0_4 : Memref sig .tc .vmem S512x512 .f32 := Memref.whole cc0_scratch4
abbrev scM0_5 : Memref sig .tc .vmem S512x512 .bf16 := Memref.whole cc0_scratch5
abbrev scM0_6 : Memref sig .tc .vmem S512x512 .bf16 := Memref.whole cc0_scratch6
/-- The scratch `arg12` the kernel carries between points, as a view: what it holds is stated through it. -/
abbrev VS0_0 : View sig .tc .vmem S3072x512 .f32 := scM0_0.view
/-- The scratch `arg13` the kernel carries between points, as a view: what it holds is stated through it. -/
abbrev VS0_1 : View sig .tc .vmem S3072x512 .f32 := scM0_1.view
/-- The scratch `arg14` the kernel carries between points, as a view: what it holds is stated through it. -/
abbrev VS0_2 : View sig .tc .vmem S8x512 .f32 := scM0_2.view
/-- The scratch `arg15` the kernel carries between points, as a view: what it holds is stated through it. -/
abbrev VS0_3 : View sig .tc .vmem S8x512 .f32 := scM0_3.view
/-- The scratch `arg16` the kernel carries between points, as a view: what it holds is stated through it. -/
abbrev VS0_4 : View sig .tc .vmem S512x512 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.Attn.Held.lean ====
/- The eighteen buffers the attention kernel's body is called with, held at named contents. -/
module

public import proofs.«01_k».proof.Proof.Attn.Conds

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers the body is called with: seven input windows, four output windows, seven scratch buffers. -/
structure Mems where
  a1 : Memref sig .tc .vmem S1x512x512 .bf16
  h1 : a1.IsWhole
  a2 : Memref sig .tc .vmem S1x3072x512 .bf16
  h2 : a2.IsWhole
  a3 : Memref sig .tc .vmem S1x512x3072 .bf16
  h3 : a3.IsWhole
  a4 : Memref sig .tc .vmem S1x512x512 .bf16
  h4 : a4.IsWhole
  a5 : Memref sig .tc .vmem S512x512 .fp8e4m3
  h5 : a5.IsWhole
  a6 : Memref sig .tc .vmem S1x512 .f32
  h6 : a6.IsWhole
  a7 : Memref sig .tc .vmem S1x512 .f32
  h7 : a7.IsWhole
  a8 : Memref sig .tc .vmem S1x512x512 .bf16
  h8 : a8.IsWhole
  a9 : Memref sig .tc .vmem S1x512x512 .bf16
  h9 : a9.IsWhole
  a10 : Memref sig .tc .vmem S1x512x512 .fp8e4m3
  h10 : a10.IsWhole
  a11 : Memref sig .tc .vmem S1x512x16 .f32
  h11 : a11.IsWhole
  a12 : Memref sig .tc .vmem S3072x512 .f32
  h12 : a12.IsWhole
  a13 : Memref sig .tc .vmem S3072x512 .f32
  h13 : a13.IsWhole
  a14 : Memref sig .tc .vmem S8x512 .f32
  h14 : a14.IsWhole
  a15 : Memref sig .tc .vmem S8x512 .f32
  h15 : a15.IsWhole
  a16 : Memref sig .tc .vmem S512x512 .f32
  h16 : a16.IsWhole
  a17 : Memref sig .tc .vmem S512x512 .bf16
  h17 : a17.IsWhole
  a18 : Memref sig .tc .vmem S512x512 .bf16
  h18 : a18.IsWhole

/-- What the buffers hold: the inputs `x`, the outputs `y`, the scratch `s`. -/
structure Vals (F : FTy → Type) where
  x0 : Vec F S1x512x512 .bf16
  x1 : Vec F S1x3072x512 .bf16
  x2 : Vec F S1x512x3072 .bf16
  x3 : Vec F S1x512x512 .bf16
  x4 : Vec F S512x512 .fp8e4m3
  x5 : Vec F S1x512 .f32
  x6 : Vec F S1x512 .f32
  y0 : Vec F S1x512x512 .bf16
  y1 : Vec F S1x512x512 .bf16
  y2 : Vec F S1x512x512 .fp8e4m3
  y3 : Vec F S1x512x16 .f32
  s0 : Vec F S3072x512 .f32
  s1 : Vec F S3072x512 .f32
  s2 : Vec F S8x512 .f32
  s3 : Vec F S8x512 .f32
  s4 : Vec F S512x512 .f32
  s5 : Vec F S512x512 .bf16
  s6 : Vec F S512x512 .bf16

/-- The buffers of `B` held at the contents `v`, on core `c`. -/
def Mems.held (B : Mems) (c : Dev nD) (v : Vals F) : sProp 𝕄 :=
  iprop(owns (c : Thread nD τ) B.a1 fullShare v.x0 ∗ owns (c : Thread nD τ) B.a2 fullShare v.x1 ∗ owns (c : Thread nD τ) B.a3 fullShare v.x2 ∗ owns (c : Thread nD τ) B.a4 fullShare v.x3 ∗ owns (c : Thread nD τ) B.a5 fullShare v.x4 ∗ owns (c : Thread nD τ) B.a6 fullShare v.x5 ∗ owns (c : Thread nD τ) B.a7 fullShare v.x6 ∗ owns (c : Thread nD τ) B.a8 fullShare v.y0 ∗ owns (c : Thread nD τ) B.a9 fullShare v.y1 ∗ owns (c : Thread nD τ) B.a10 fullShare v.y2 ∗ owns (c : Thread nD τ) B.a11 fullShare v.y3 ∗ owns (c : Thread nD τ) B.a12 fullShare v.s0 ∗ owns (c : Thread nD τ) B.a13 fullShare v.s1 ∗ owns (c : Thread nD τ) B.a14 fullShare v.s2 ∗ owns (c : Thread nD τ) B.a15 fullShare v.s3 ∗ owns (c : Thread nD τ) B.a16 fullShare v.s4 ∗ owns (c : Thread nD τ) B.a17 fullShare v.s5 ∗ owns (c : Thread nD τ) B.a18 fullShare v.s6)

/-- The kernel's body at grid point `i` on the buffers of `B`. -/
abbrev bodyOn (B : Mems) (i : grid0.Coords) :=
  cc0_attn_out (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18

end Cert.KernelIdeal.Gen

end
-- ==== Proof.Attn.Stage.lean ====
/- The four stages of the attention kernel's body, as functions of what they read: QK (the scores of one block of 512
   queries against all keys, transposed, and their maxima), EX (the exponentials and the reciprocal of their sums), PV
   (the weighted sum of the values) and the epilogue (quantisation, projection, residual). -/
module

public import proofs.«01_k».proof.Proof.Attn.Held

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## QK -/

/-- The product of one tile of 256 keys with the block's queries. -/
noncomputable def qkDot (q : Vec F S1x512x512 .bf16) (k : Vec F S1x256x512 .bf16) : FVec F S256x512 .f32 :=
  matmul dot_S256x512_S512x512_S256x512_1_0_0_1_n_n none (shapeCast S256x512 k shapeCasts_S1x256x512_S256x512)
    (shapeCast S512x512 q shapeCasts_S1x512x512_S512x512) (constant S256x512 .f32 0x00000000#32)

/-- The scores of one tile, as stored. -/
noncomputable def qkTile (q : Vec F S1x512x512 .bf16) (k : Vec F S1x256x512 .bf16) : FVec F S256x512 .f32 :=
  shapeCast S256x512 (qkDot q k) shapeCasts_S256x512_S256x512

/-- The maxima of one tile's scores over its rows, one for each residue of the row modulo 8. -/
noncomputable def qkMax (q : Vec F S1x512x512 .bf16) (k : Vec F S1x256x512 .bf16) : FVec F S8x512 .f32 :=
  multiReduction .maximumf [0] S8x512 (shapeCast S32x8x512 (qkDot q k) shapeCasts_S256x512_S32x8x512) 0xFF800000#32
    reduces_S32x8x512_S8x512 (.inl rfl) rfl

/-- The stores of the scores, last first. -/
noncomputable def scorePieces (q : Vec F S1x512x512 .bf16) (k : Vec F S1x3072x512 .bf16) : List (View.Piece (Elt F) S3072x512 .f32) :=
  [⟨Rect.unit (s := S3072x512) ![2816, 0] S256x512.size inb_S3072x512_S256x512_2816_0, qkTile (View.ld q (Rect.unit (s := S1x512x512) ![0, 0, 0] S1x512x512.size inb_S1x512x512_S1x512x512_0_0_0)) (View.ld k (Rect.unit (s := S1x3072x512) ![0, 2816, 0] S1x256x512.size inb_S1x3072x512_S1x256x512_0_2816_0))⟩,
   ⟨Rect.unit (s := S3072x512) ![2560, 0] S256x512.size inb_S3072x512_S256x512_2560_0, qkTile (View.ld q (Rect.unit (s := S1x512x512) ![0, 0, 0] S1x512x512.size inb_S1x512x512_S1x512x512_0_0_0)) (View.ld k (Rect.unit (s := S1x3072x512) ![0, 2560, 0] S1x256x512.size inb_S1x3072x512_S1x256x512_0_2560_0))⟩,
   ⟨Rect.unit (s := S3072x512) ![2304, 0] S256x512.size inb_S3072x512_S256x512_2304_0, qkTile (View.ld q (Rect.unit (s := S1x512x512) ![0, 0, 0] S1x512x512.size inb_S1x512x512_S1x512x512_0_0_0)) (View.ld k (Rect.unit (s := S1x3072x512) ![0, 2304, 0] S1x256x512.size inb_S1x3072x512_S1x256x512_0_2304_0))⟩,
   ⟨Rect.unit (s := S3072x512) ![2048, 0] S256x512.size inb_S3072x512_S256x512_2048_0, qkTile (View.ld q (Rect.unit (s := S1x512x512) ![0, 0, 0] S1x512x512.size inb_S1x512x512_S1x512x512_0_0_0)) (View.ld k (Rect.unit (s := S1x3072x512) ![0, 2048, 0] S1x256x512.size inb_S1x3072x512_S1x256x512_0_2048_0))⟩,
   ⟨Rect.unit (s := S3072x512) ![1792, 0] S256x512.size inb_S3072x512_S256x512_1792_0, qkTile (View.ld q (Rect.unit (s := S1x512x512) ![0, 0, 0] S1x512x512.size inb_S1x512x512_S1x512x512_0_0_0)) (View.ld k (Rect.unit (s := S1x3072x512) ![0, 1792, 0] S1x256x512.size inb_S1x3072x512_S1x256x512_0_1792_0))⟩,
   ⟨Rect.unit (s := S3072x512) ![1536, 0] S256x512.size inb_S3072x512_S256x512_1536_0, qkTile (View.ld q (Rect.unit (s := S1x512x512) ![0, 0, 0] S1x512x512.size inb_S1x512x512_S1x512x512_0_0_0)) (View.ld k (Rect.unit (s := S1x3072x512) ![0, 1536, 0] S1x256x512.size inb_S1x3072x512_S1x256x512_0_1536_0))⟩,
   ⟨Rect.unit (s := S3072x512) ![1280, 0] S256x512.size inb_S3072x512_S256x512_1280_0, qkTile (View.ld q (Rect.unit (s := S1x512x512) ![0, 0, 0] S1x512x512.size inb_S1x512x512_S1x512x512_0_0_0)) (View.ld k (Rect.unit (s := S1x3072x512) ![0, 1280, 0] S1x256x512.size inb_S1x3072x512_S1x256x512_0_1280_0))⟩,
   ⟨Rect.unit (s := S3072x512) ![1024, 0] S256x512.size inb_S3072x512_S256x512_1024_0, qkTile (View.ld q (Rect.unit (s := S1x512x512) ![0, 0, 0] S1x512x512.size inb_S1x512x512_S1x512x512_0_0_0)) (View.ld k (Rect.unit (s := S1x3072x512) ![0, 1024, 0] S1x256x512.size inb_S1x3072x512_S1x256x512_0_1024_0))⟩,
   ⟨Rect.unit (s := S3072x512) ![768, 0] S256x512.size inb_S3072x512_S256x512_768_0, qkTile (View.ld q (Rect.unit (s := S1x512x512) ![0, 0, 0] S1x512x512.size inb_S1x512x512_S1x512x512_0_0_0)) (View.ld k (Rect.unit (s := S1x3072x512) ![0, 768, 0] S1x256x512.size inb_S1x3072x512_S1x256x512_0_768_0))⟩,
   ⟨Rect.unit (s := S3072x512) ![512, 0] S256x512.size inb_S3072x512_S256x512_512_0, qkTile (View.ld q (Rect.unit (s := S1x512x512) ![0, 0, 0] S1x512x512.size inb_S1x512x512_S1x512x512_0_0_0)) (View.ld k (Rect.unit (s := S1x3072x512) ![0, 512, 0] S1x256x512.size inb_S1x3072x512_S1x256x512_0_512_0))⟩,
   ⟨Rect.unit (s := S3072x512) ![256, 0] S256x512.size inb_S3072x512_S256x512_256_0, qkTile (View.ld q (Rect.unit (s := S1x512x512) ![0, 0, 0] S1x512x512.size inb_S1x512x512_S1x512x512_0_0_0)) (View.ld k (Rect.unit (s := S1x3072x512) ![0, 256, 0] S1x256x512.size inb_S1x3072x512_S1x256x512_0_256_0))⟩,
   ⟨Rect.unit (s := S3072x512) ![0, 0] S256x512.size inb_S3072x512_S256x512_0_0, qkTile (View.ld q (Rect.unit (s := S1x512x512) ![0, 0, 0] S1x512x512.size inb_S1x512x512_S1x512x512_0_0_0)) (View.ld k (Rect.unit (s := S1x3072x512) ![0, 0, 0] S1x256x512.size inb_S1x3072x512_S1x256x512_0_0_0))⟩]

/-- The scores of a block, transposed: keys by queries. -/
noncomputable def scoresOf (q : Vec F S1x512x512 .bf16) (k : Vec F S1x3072x512 .bf16) : Vec F S3072x512 .f32 := View.canon (scorePieces q k)

/-- The running maxima after all tiles. -/
noncomputable def maxAll (q : Vec F S1x512x512 .bf16) (k : Vec F S1x3072x512 .bf16) : FVec F S8x512 .f32 :=
  maximumf (maximumf (maximumf (maximumf (maximumf (maximumf (maximumf (maximumf (maximumf (maximumf (maximumf (qkMax (View.ld q (Rect.unit (s := S1x512x512) ![0, 0, 0] S1x512x512.size inb_S1x512x512_S1x512x512_0_0_0)) (View.ld k (Rect.unit (s := S1x3072x512) ![0, 0, 0] S1x256x512.size inb_S1x3072x512_S1x256x512_0_0_0)))
   (qkMax (View.ld q (Rect.unit (s := S1x512x512) ![0, 0, 0] S1x512x512.size inb_S1x512x512_S1x512x512_0_0_0)) (View.ld k (Rect.unit (s := S1x3072x512) ![0, 256, 0] S1x256x512.size inb_S1x3072x512_S1x256x512_0_256_0))))
   (qkMax (View.ld q (Rect.unit (s := S1x512x512) ![0, 0, 0] S1x512x512.size inb_S1x512x512_S1x512x512_0_0_0)) (View.ld k (Rect.unit (s := S1x3072x512) ![0, 512, 0] S1x256x512.size inb_S1x3072x512_S1x256x512_0_512_0))))
   (qkMax (View.ld q (Rect.unit (s := S1x512x512) ![0, 0, 0] S1x512x512.size inb_S1x512x512_S1x512x512_0_0_0)) (View.ld k (Rect.unit (s := S1x3072x512) ![0, 768, 0] S1x256x512.size inb_S1x3072x512_S1x256x512_0_768_0))))
   (qkMax (View.ld q (Rect.unit (s := S1x512x512) ![0, 0, 0] S1x512x512.size inb_S1x512x512_S1x512x512_0_0_0)) (View.ld k (Rect.unit (s := S1x3072x512) ![0, 1024, 0] S1x256x512.size inb_S1x3072x512_S1x256x512_0_1024_0))))
   (qkMax (View.ld q (Rect.unit (s := S1x512x512) ![0, 0, 0] S1x512x512.size inb_S1x512x512_S1x512x512_0_0_0)) (View.ld k (Rect.unit (s := S1x3072x512) ![0, 1280, 0] S1x256x512.size inb_S1x3072x512_S1x256x512_0_1280_0))))
   (qkMax (View.ld q (Rect.unit (s := S1x512x512) ![0, 0, 0] S1x512x512.size inb_S1x512x512_S1x512x512_0_0_0)) (View.ld k (Rect.unit (s := S1x3072x512) ![0, 1536, 0] S1x256x512.size inb_S1x3072x512_S1x256x512_0_1536_0))))
   (qkMax (View.ld q (Rect.unit (s := S1x512x512) ![0, 0, 0] S1x512x512.size inb_S1x512x512_S1x512x512_0_0_0)) (View.ld k (Rect.unit (s := S1x3072x512) ![0, 1792, 0] S1x256x512.size inb_S1x3072x512_S1x256x512_0_1792_0))))
   (qkMax (View.ld q (Rect.unit (s := S1x512x512) ![0, 0, 0] S1x512x512.size inb_S1x512x512_S1x512x512_0_0_0)) (View.ld k (Rect.unit (s := S1x3072x512) ![0, 2048, 0] S1x256x512.size inb_S1x3072x512_S1x256x512_0_2048_0))))
   (qkMax (View.ld q (Rect.unit (s := S1x512x512) ![0, 0, 0] S1x512x512.size inb_S1x512x512_S1x512x512_0_0_0)) (View.ld k (Rect.unit (s := S1x3072x512) ![0, 2304, 0] S1x256x512.size inb_S1x3072x512_S1x256x512_0_2304_0))))
   (qkMax (View.ld q (Rect.unit (s := S1x512x512) ![0, 0, 0] S1x512x512.size inb_S1x512x512_S1x512x512_0_0_0)) (View.ld k (Rect.unit (s := S1x3072x512) ![0, 2560, 0] S1x256x512.size inb_S1x3072x512_S1x256x512_0_2560_0))))
   (qkMax (View.ld q (Rect.unit (s := S1x512x512) ![0, 0, 0] S1x512x512.size inb_S1x512x512_S1x512x512_0_0_0)) (View.ld k (Rect.unit (s := S1x3072x512) ![0, 2816, 0] S1x256x512.size inb_S1x3072x512_S1x256x512_0_2816_0)))

/-- The stored maxima: over all keys, times the scale, the same in eight rows. -/
noncomputable def maxRow (m : FVec F S8x512 .f32) : FVec F S8x512 .f32 :=
  shapeCast S8x512 (broadcastTo S8x512 (shapeCast S1x512 (mulf (shapeCast S1x512
    (multiReduction .maximumf [0] S512 m 0xFF800000#32 reduces_S8x512_S512 (.inl rfl) rfl) shapeCasts_S512_S1x512)
    (broadcast S1x512 (Named.named κ "softmax_scale" 0x3D8293EE#32 : F .f32))) shapeCasts_S1x512_S1x512)
    broadcasts_S1x512_S8x512) shapeCasts_S8x512_S8x512

/-- What QK leaves in the maxima's buffer. -/
noncomputable def maxOf (q : Vec F S1x512x512 .bf16) (k : Vec F S1x3072x512 .bf16) : Vec F S8x512 .f32 :=
  View.canon [⟨(Rect.unit (s := S8x512) ![0, 0] S8x512.size inb_S8x512_S8x512_0_0), maxRow (maxAll q k)⟩]

/-! ## EX -/

/-- The exponentials of one tile of scores. -/
noncomputable def exTile (m : Vec F S8x512 .f32) (s : Vec F S256x512 .f32) : FVec F S32x8x512 .f32 :=
  exp2 (subf (mulf (shapeCast S32x8x512 s shapeCasts_S256x512_S32x8x512)
    (broadcast S32x8x512 (Named.named κ "softmax_scale" 0x3D8293EE#32 : F .f32)))
    (broadcastTo S32x8x512 (shapeCast S1x8x512 m shapeCasts_S8x512_S1x8x512) broadcasts_S1x8x512_S32x8x512))

/-- The exponentials of one tile, as stored. -/
noncomputable def exStore (m : Vec F S8x512 .f32) (s : Vec F S256x512 .f32) : FVec F S256x512 .f32 :=
  shapeCast S256x512 (shapeCast S256x512 (exTile m s) shapeCasts_S32x8x512_S256x512) shapeCasts_S256x512_S256x512

/-- The sums of one tile's exponentials over its rows, one for each residue of the row modulo 8. -/
noncomputable def exSum (m : Vec F S8x512 .f32) (s : Vec F S256x512 .f32) : FVec F S8x512 .f32 :=
  multiReduction .add [0] S8x512 (exTile m s) 0x00000000#32 reduces_S32x8x512_S8x512 (.inl rfl) rfl

/-- The stores of the exponentials, last first. -/
noncomputable def expPieces (s : Vec F S3072x512 .f32) (m : Vec F S8x512 .f32) : List (View.Piece (Elt F) S3072x512 .f32) :=
  [⟨Rect.unit (s := S3072x512) ![2816, 0] S256x512.size inb_S3072x512_S256x512_2816_0, exStore (View.ld m (Rect.unit (s := S8x512) ![0, 0] S8x512.size inb_S8x512_S8x512_0_0)) (View.ld s (Rect.unit (s := S3072x512) ![2816, 0] S256x512.size inb_S3072x512_S256x512_2816_0))⟩,
   ⟨Rect.unit (s := S3072x512) ![2560, 0] S256x512.size inb_S3072x512_S256x512_2560_0, exStore (View.ld m (Rect.unit (s := S8x512) ![0, 0] S8x512.size inb_S8x512_S8x512_0_0)) (View.ld s (Rect.unit (s := S3072x512) ![2560, 0] S256x512.size inb_S3072x512_S256x512_2560_0))⟩,
   ⟨Rect.unit (s := S3072x512) ![2304, 0] S256x512.size inb_S3072x512_S256x512_2304_0, exStore (View.ld m (Rect.unit (s := S8x512) ![0, 0] S8x512.size inb_S8x512_S8x512_0_0)) (View.ld s (Rect.unit (s := S3072x512) ![2304, 0] S256x512.size inb_S3072x512_S256x512_2304_0))⟩,
   ⟨Rect.unit (s := S3072x512) ![2048, 0] S256x512.size inb_S3072x512_S256x512_2048_0, exStore (View.ld m (Rect.unit (s := S8x512) ![0, 0] S8x512.size inb_S8x512_S8x512_0_0)) (View.ld s (Rect.unit (s := S3072x512) ![2048, 0] S256x512.size inb_S3072x512_S256x512_2048_0))⟩,
   ⟨Rect.unit (s := S3072x512) ![1792, 0] S256x512.size inb_S3072x512_S256x512_1792_0, exStore (View.ld m (Rect.unit (s := S8x512) ![0, 0] S8x512.size inb_S8x512_S8x512_0_0)) (View.ld s (Rect.unit (s := S3072x512) ![1792, 0] S256x512.size inb_S3072x512_S256x512_1792_0))⟩,
   ⟨Rect.unit (s := S3072x512) ![1536, 0] S256x512.size inb_S3072x512_S256x512_1536_0, exStore (View.ld m (Rect.unit (s := S8x512) ![0, 0] S8x512.size inb_S8x512_S8x512_0_0)) (View.ld s (Rect.unit (s := S3072x512) ![1536, 0] S256x512.size inb_S3072x512_S256x512_1536_0))⟩,
   ⟨Rect.unit (s := S3072x512) ![1280, 0] S256x512.size inb_S3072x512_S256x512_1280_0, exStore (View.ld m (Rect.unit (s := S8x512) ![0, 0] S8x512.size inb_S8x512_S8x512_0_0)) (View.ld s (Rect.unit (s := S3072x512) ![1280, 0] S256x512.size inb_S3072x512_S256x512_1280_0))⟩,
   ⟨Rect.unit (s := S3072x512) ![1024, 0] S256x512.size inb_S3072x512_S256x512_1024_0, exStore (View.ld m (Rect.unit (s := S8x512) ![0, 0] S8x512.size inb_S8x512_S8x512_0_0)) (View.ld s (Rect.unit (s := S3072x512) ![1024, 0] S256x512.size inb_S3072x512_S256x512_1024_0))⟩,
   ⟨Rect.unit (s := S3072x512) ![768, 0] S256x512.size inb_S3072x512_S256x512_768_0, exStore (View.ld m (Rect.unit (s := S8x512) ![0, 0] S8x512.size inb_S8x512_S8x512_0_0)) (View.ld s (Rect.unit (s := S3072x512) ![768, 0] S256x512.size inb_S3072x512_S256x512_768_0))⟩,
   ⟨Rect.unit (s := S3072x512) ![512, 0] S256x512.size inb_S3072x512_S256x512_512_0, exStore (View.ld m (Rect.unit (s := S8x512) ![0, 0] S8x512.size inb_S8x512_S8x512_0_0)) (View.ld s (Rect.unit (s := S3072x512) ![512, 0] S256x512.size inb_S3072x512_S256x512_512_0))⟩,
   ⟨Rect.unit (s := S3072x512) ![256, 0] S256x512.size inb_S3072x512_S256x512_256_0, exStore (View.ld m (Rect.unit (s := S8x512) ![0, 0] S8x512.size inb_S8x512_S8x512_0_0)) (View.ld s (Rect.unit (s := S3072x512) ![256, 0] S256x512.size inb_S3072x512_S256x512_256_0))⟩,
   ⟨Rect.unit (s := S3072x512) ![0, 0] S256x512.size inb_S3072x512_S256x512_0_0, exStore (View.ld m (Rect.unit (s := S8x512) ![0, 0] S8x512.size inb_S8x512_S8x512_0_0)) (View.ld s (Rect.unit (s := S3072x512) ![0, 0] S256x512.size inb_S3072x512_S256x512_0_0))⟩]

/-- The exponentials of a block, transposed. -/
noncomputable def expsOf (s : Vec F S3072x512 .f32) (m : Vec F S8x512 .f32) : Vec F S3072x512 .f32 := View.canon (expPieces s m)

/-- The running sums after all tiles. -/
noncomputable def sumAll (s : Vec F S3072x512 .f32) (m : Vec F S8x512 .f32) : FVec F S8x512 .f32 :=
  addf (addf (addf (addf (addf (addf (addf (addf (addf (addf (addf (addf (broadcast S8x512 (Scalar.ofBits .f32 0x00000000#32 : F .f32))
   (exSum (View.ld m (Rect.unit (s := S8x512) ![0, 0] S8x512.size inb_S8x512_S8x512_0_0)) (View.ld s (Rect.unit (s := S3072x512) ![0, 0] S256x512.size inb_S3072x512_S256x512_0_0))))
   (exSum (View.ld m (Rect.unit (s := S8x512) ![0, 0] S8x512.size inb_S8x512_S8x512_0_0)) (View.ld s (Rect.unit (s := S3072x512) ![256, 0] S256x512.size inb_S3072x512_S256x512_256_0))))
   (exSum (View.ld m (Rect.unit (s := S8x512) ![0, 0] S8x512.size inb_S8x512_S8x512_0_0)) (View.ld s (Rect.unit (s := S3072x512) ![512, 0] S256x512.size inb_S3072x512_S256x512_512_0))))
   (exSum (View.ld m (Rect.unit (s := S8x512) ![0, 0] S8x512.size inb_S8x512_S8x512_0_0)) (View.ld s (Rect.unit (s := S3072x512) ![768, 0] S256x512.size inb_S3072x512_S256x512_768_0))))
   (exSum (View.ld m (Rect.unit (s := S8x512) ![0, 0] S8x512.size inb_S8x512_S8x512_0_0)) (View.ld s (Rect.unit (s := S3072x512) ![1024, 0] S256x512.size inb_S3072x512_S256x512_1024_0))))
   (exSum (View.ld m (Rect.unit (s := S8x512) ![0, 0] S8x512.size inb_S8x512_S8x512_0_0)) (View.ld s (Rect.unit (s := S3072x512) ![1280, 0] S256x512.size inb_S3072x512_S256x512_1280_0))))
   (exSum (View.ld m (Rect.unit (s := S8x512) ![0, 0] S8x512.size inb_S8x512_S8x512_0_0)) (View.ld s (Rect.unit (s := S3072x512) ![1536, 0] S256x512.size inb_S3072x512_S256x512_1536_0))))
   (exSum (View.ld m (Rect.unit (s := S8x512) ![0, 0] S8x512.size inb_S8x512_S8x512_0_0)) (View.ld s (Rect.unit (s := S3072x512) ![1792, 0] S256x512.size inb_S3072x512_S256x512_1792_0))))
   (exSum (View.ld m (Rect.unit (s := S8x512) ![0, 0] S8x512.size inb_S8x512_S8x512_0_0)) (View.ld s (Rect.unit (s := S3072x512) ![2048, 0] S256x512.size inb_S3072x512_S256x512_2048_0))))
   (exSum (View.ld m (Rect.unit (s := S8x512) ![0, 0] S8x512.size inb_S8x512_S8x512_0_0)) (View.ld s (Rect.unit (s := S3072x512) ![2304, 0] S256x512.size inb_S3072x512_S256x512_2304_0))))
   (exSum (View.ld m (Rect.unit (s := S8x512) ![0, 0] S8x512.size inb_S8x512_S8x512_0_0)) (View.ld s (Rect.unit (s := S3072x512) ![2560, 0] S256x512.size inb_S3072x512_S256x512_2560_0))))
   (exSum (View.ld m (Rect.unit (s := S8x512) ![0, 0] S8x512.size inb_S8x512_S8x512_0_0)) (View.ld s (Rect.unit (s := S3072x512) ![2816, 0] S256x512.size inb_S3072x512_S256x512_2816_0)))

/-- The stored reciprocals of the sums over all keys, the same in eight rows. -/
noncomputable def recipRow (l : FVec F S8x512 .f32) : FVec F S8x512 .f32 :=
  shapeCast S8x512 (broadcastTo S8x512 (shapeCast S1x512 (divf (broadcast S1x512 (Scalar.ofBits .f32 0x3F800000#32 : F .f32))
    (shapeCast S1x512 (multiReduction .add [0] S512 l 0x00000000#32 reduces_S8x512_S512 (.inl rfl) rfl)
    shapeCasts_S512_S1x512)) shapeCasts_S1x512_S1x512) broadcasts_S1x512_S8x512) shapeCasts_S8x512_S8x512

/-- What EX leaves in the reciprocals' buffer. -/
noncomputable def recipOf (s : Vec F S3072x512 .f32) (m : Vec F S8x512 .f32) : Vec F S8x512 .f32 :=
  View.canon [⟨(Rect.unit (s := S8x512) ![0, 0] S8x512.size inb_S8x512_S8x512_0_0), recipRow (sumAll s m)⟩]

/-! ## PV -/

/-- The weights of one tile, times the tile's values. -/
noncomputable def pvDot (r : Vec F S8x512 .f32) (e : Vec F S256x512 .f32) (v : Vec F S1x512x256 .bf16) : FVec F S512x512 .f32 :=
  matmul dot_S512x256_S256x512_S512x512_1_0_0_1_n_n none (shapeCast S512x256 v shapeCasts_S1x512x256_S512x256)
    (truncf .bf16 (shapeCast S256x512 (mulf (shapeCast S32x8x512 e shapeCasts_S256x512_S32x8x512)
      (broadcastTo S32x8x512 (shapeCast S1x8x512 r shapeCasts_S8x512_S1x8x512) broadcasts_S1x8x512_S32x8x512))
      shapeCasts_S32x8x512_S256x512) bitsLt_bf16_f32) (constant S512x512 .f32 0x00000000#32)

/-- The running weighted sum after all tiles. -/
noncomputable def pvAll (e : Vec F S3072x512 .f32) (r : Vec F S8x512 .f32) (vt : Vec F S1x512x3072 .bf16) : FVec F S512x512 .f32 :=
  addf (addf (addf (addf (addf (addf (addf (addf (addf (addf (addf (pvDot (View.ld r (Rect.unit (s := S8x512) ![0, 0] S8x512.size inb_S8x512_S8x512_0_0)) (View.ld e (Rect.unit (s := S3072x512) ![0, 0] S256x512.size inb_S3072x512_S256x512_0_0)) (View.ld vt (Rect.unit (s := S1x512x3072) ![0, 0, 0] S1x512x256.size inb_S1x512x3072_S1x512x256_0_0_0)))
   (pvDot (View.ld r (Rect.unit (s := S8x512) ![0, 0] S8x512.size inb_S8x512_S8x512_0_0)) (View.ld e (Rect.unit (s := S3072x512) ![256, 0] S256x512.size inb_S3072x512_S256x512_256_0)) (View.ld vt (Rect.unit (s := S1x512x3072) ![0, 0, 256] S1x512x256.size inb_S1x512x3072_S1x512x256_0_0_256))))
   (pvDot (View.ld r (Rect.unit (s := S8x512) ![0, 0] S8x512.size inb_S8x512_S8x512_0_0)) (View.ld e (Rect.unit (s := S3072x512) ![512, 0] S256x512.size inb_S3072x512_S256x512_512_0)) (View.ld vt (Rect.unit (s := S1x512x3072) ![0, 0, 512] S1x512x256.size inb_S1x512x3072_S1x512x256_0_0_512))))
   (pvDot (View.ld r (Rect.unit (s := S8x512) ![0, 0] S8x512.size inb_S8x512_S8x512_0_0)) (View.ld e (Rect.unit (s := S3072x512) ![768, 0] S256x512.size inb_S3072x512_S256x512_768_0)) (View.ld vt (Rect.unit (s := S1x512x3072) ![0, 0, 768] S1x512x256.size inb_S1x512x3072_S1x512x256_0_0_768))))
   (pvDot (View.ld r (Rect.unit (s := S8x512) ![0, 0] S8x512.size inb_S8x512_S8x512_0_0)) (View.ld e (Rect.unit (s := S3072x512) ![1024, 0] S256x512.size inb_S3072x512_S256x512_1024_0)) (View.ld vt (Rect.unit (s := S1x512x3072) ![0, 0, 1024] S1x512x256.size inb_S1x512x3072_S1x512x256_0_0_1024))))
   (pvDot (View.ld r (Rect.unit (s := S8x512) ![0, 0] S8x512.size inb_S8x512_S8x512_0_0)) (View.ld e (Rect.unit (s := S3072x512) ![1280, 0] S256x512.size inb_S3072x512_S256x512_1280_0)) (View.ld vt (Rect.unit (s := S1x512x3072) ![0, 0, 1280] S1x512x256.size inb_S1x512x3072_S1x512x256_0_0_1280))))
   (pvDot (View.ld r (Rect.unit (s := S8x512) ![0, 0] S8x512.size inb_S8x512_S8x512_0_0)) (View.ld e (Rect.unit (s := S3072x512) ![1536, 0] S256x512.size inb_S3072x512_S256x512_1536_0)) (View.ld vt (Rect.unit (s := S1x512x3072) ![0, 0, 1536] S1x512x256.size inb_S1x512x3072_S1x512x256_0_0_1536))))
   (pvDot (View.ld r (Rect.unit (s := S8x512) ![0, 0] S8x512.size inb_S8x512_S8x512_0_0)) (View.ld e (Rect.unit (s := S3072x512) ![1792, 0] S256x512.size inb_S3072x512_S256x512_1792_0)) (View.ld vt (Rect.unit (s := S1x512x3072) ![0, 0, 1792] S1x512x256.size inb_S1x512x3072_S1x512x256_0_0_1792))))
   (pvDot (View.ld r (Rect.unit (s := S8x512) ![0, 0] S8x512.size inb_S8x512_S8x512_0_0)) (View.ld e (Rect.unit (s := S3072x512) ![2048, 0] S256x512.size inb_S3072x512_S256x512_2048_0)) (View.ld vt (Rect.unit (s := S1x512x3072) ![0, 0, 2048] S1x512x256.size inb_S1x512x3072_S1x512x256_0_0_2048))))
   (pvDot (View.ld r (Rect.unit (s := S8x512) ![0, 0] S8x512.size inb_S8x512_S8x512_0_0)) (View.ld e (Rect.unit (s := S3072x512) ![2304, 0] S256x512.size inb_S3072x512_S256x512_2304_0)) (View.ld vt (Rect.unit (s := S1x512x3072) ![0, 0, 2304] S1x512x256.size inb_S1x512x3072_S1x512x256_0_0_2304))))
   (pvDot (View.ld r (Rect.unit (s := S8x512) ![0, 0] S8x512.size inb_S8x512_S8x512_0_0)) (View.ld e (Rect.unit (s := S3072x512) ![2560, 0] S256x512.size inb_S3072x512_S256x512_2560_0)) (View.ld vt (Rect.unit (s := S1x512x3072) ![0, 0, 2560] S1x512x256.size inb_S1x512x3072_S1x512x256_0_0_2560))))
   (pvDot (View.ld r (Rect.unit (s := S8x512) ![0, 0] S8x512.size inb_S8x512_S8x512_0_0)) (View.ld e (Rect.unit (s := S3072x512) ![2816, 0] S256x512.size inb_S3072x512_S256x512_2816_0)) (View.ld vt (Rect.unit (s := S1x512x3072) ![0, 0, 2816] S1x512x256.size inb_S1x512x3072_S1x512x256_0_0_2816)))

/-- The attention output of a block, transposed: channels by queries. -/
noncomputable def outOf (e : Vec F S3072x512 .f32) (r : Vec F S8x512 .f32) (vt : Vec F S1x512x3072 .bf16) : Vec F S512x512 .f32 :=
  View.canon [⟨(Rect.unit (s := S512x512) ![0, 0] S512x512.size inb_S512x512_S512x512_0_0), shapeCast S512x512 (pvAll e r vt) shapeCasts_S512x512_S512x512⟩]

/-! ## The epilogue, in strips of 128 queries -/

/-- A strip in blocks of 32 channels. -/
noncomputable def blocks (o : Vec F S512x128 .f32) : FVec F S16x32x128 .f32 := shapeCast S16x32x128 o shapeCasts_S512x128_S16x32x128

/-- The largest magnitude of each block, over 448. -/
noncomputable def ratio (o : Vec F S512x128 .f32) : FVec F S16x128 .f32 :=
  mulf (multiReduction .maximumf [1] S16x128 (absf (blocks o)) 0xFF800000#32 reduces_S16x32x128_S16x128 (.inl rfl) rfl)
    (broadcast S16x128 (Scalar.ofBits .f32 0x3B124925#32 : F .f32))

/-- One step of the search for the exponent: the bit `b` is set when the power of two it gives is at most `r`. -/
noncomputable def expStep (r : FVec F S16x128 .f32) (b : BitVec 32) (e : IVec S16x128 32) : IVec S16x128 32 :=
  select (cmpf .oge r (bitcastToFloat .f32 (muli (addi e (broadcast S16x128 b)) (broadcast S16x128 8388608#32))))
    (addi e (broadcast S16x128 b)) e

/-- The exponent found bit by bit. -/
noncomputable def expSearch (r : FVec F S16x128 .f32) : IVec S16x128 32 :=
  expStep r 1#32 (expStep r 2#32 (expStep r 4#32 (expStep r 8#32 (expStep r 16#32 (expStep r 32#32
    (expStep r 64#32 (expStep r 128#32 (broadcast S16x128 0#32))))))))

/-- The exponent field of the ratio. -/
noncomputable def expField (r : FVec F S16x128 .f32) : IVec S16x128 32 :=
  select (cmpf .oeq r (broadcast S16x128 (Scalar.ofBits .f32 0x7F800000#32 : F .f32))) (broadcast S16x128 2139095040#32)
    (muli (minsi (expSearch r) (broadcast S16x128 252#32)) (broadcast S16x128 8388608#32))

/-- The bits of a block's scale. -/
noncomputable def scaleBits (t : IVec S16x128 32) : IVec S16x128 32 :=
  select (ori (cmpi .eq t (broadcast S16x128 0#32)) (cmpi .eq t (broadcast S16x128 2139095040#32)))
    (broadcast S16x128 1065353216#32) (addi t (broadcast S16x128 8388608#32))

/-- The scales of a strip's blocks, and their inverses. -/
noncomputable def scale (o : Vec F S512x128 .f32) : FVec F S16x128 .f32 := bitcastToFloat .f32 (scaleBits (expField (ratio o)))
noncomputable def scaleInv (o : Vec F S512x128 .f32) : FVec F S16x128 .f32 :=
  bitcastToFloat .f32 (subi (broadcast S16x128 2130706432#32) (scaleBits (expField (ratio o))))

/-- One number for each block, spread over its 32 channels. -/
noncomputable def spread {φ : FTy} (v : FVec F S16x128 φ) : FVec F S16x32x128 φ :=
  broadcastTo S16x32x128 (shapeCast S16x1x128 v shapeCasts_S16x128_S16x1x128) broadcasts_S16x1x128_S16x32x128

/-- The codes of a strip, read back in bf16. -/
noncomputable def codes (o : Vec F S512x128 .f32) : FVec F S16x32x128 .bf16 :=
  extf .bf16 (truncf .fp8e4m3 (minimumf (broadcast S16x32x128 (Scalar.ofBits .f32 0x43E00000#32 : F .f32))
    (maximumf (broadcast S16x32x128 (Scalar.ofBits .f32 0xC3E00000#32 : F .f32)) (mulf (blocks o) (spread (scaleInv o)))))
    bitsLt_fp8e4m3_f32) bitsLt_fp8e4m3_bf16

/-- What a strip stores: its codes, its quantised values, its scales. -/
noncomputable def codesStrip (o : Vec F S512x128 .f32) : FVec F S1x128x512 .fp8e4m3 :=
  shapeCast S1x128x512 (truncf .fp8e4m3 (transpose S128x512 [1, 0] (shapeCast S512x128 (codes o) shapeCasts_S16x32x128_S512x128)
    transposes_S512x128_p1_0_S128x512) bitsLt_fp8e4m3_bf16) shapeCasts_S128x512_S1x128x512
noncomputable def actStrip (o : Vec F S512x128 .f32) : FVec F S128x512 .bf16 :=
  shapeCast S128x512 (transpose S128x512 [1, 0] (shapeCast S512x128 (mulf (codes o) (spread (truncf .bf16 (scale o) bitsLt_bf16_f32)))
    shapeCasts_S16x32x128_S512x128) transposes_S512x128_p1_0_S128x512) shapeCasts_S128x512_S128x512
noncomputable def scaleStrip (o : Vec F S512x128 .f32) : FVec F S1x128x16 .f32 :=
  shapeCast S1x128x16 (extractStridedSlice S128x16 ![0, 0] (transpose S128x128 [1, 0]
    (concatenate S128x128 0 [⟨S16x128, scale o⟩, ⟨S112x128, broadcast S112x128 (Scalar.ofBits .f32 0x00000000#32 : F .f32)⟩]
      concatenates_S16x128_S112x128_S128x128_d0) transposes_S128x128_p1_0_S128x128) slices_S128x128_o0_0_S128x16)
    shapeCasts_S128x16_S1x128x16

/-- The stores of the quantised values, last first. -/
noncomputable def actPieces (o : Vec F S512x512 .f32) : List (View.Piece (Elt F) S512x512 .bf16) :=
  [⟨Rect.unit (s := S512x512) ![384, 0] S128x512.size inb_S512x512_S128x512_384_0, actStrip (View.ld o (Rect.unit (s := S512x512) ![0, 384] S512x128.size inb_S512x512_S512x128_0_384))⟩,
   ⟨Rect.unit (s := S512x512) ![256, 0] S128x512.size inb_S512x512_S128x512_256_0, actStrip (View.ld o (Rect.unit (s := S512x512) ![0, 256] S512x128.size inb_S512x512_S512x128_0_256))⟩,
   ⟨Rect.unit (s := S512x512) ![128, 0] S128x512.size inb_S512x512_S128x512_128_0, actStrip (View.ld o (Rect.unit (s := S512x512) ![0, 128] S512x128.size inb_S512x512_S512x128_0_128))⟩,
   ⟨Rect.unit (s := S512x512) ![0, 0] S128x512.size inb_S512x512_S128x512_0_0, actStrip (View.ld o (Rect.unit (s := S512x512) ![0, 0] S512x128.size inb_S512x512_S512x128_0_0))⟩]

/-- The stores of the codes, last first. -/
noncomputable def codePieces (o : Vec F S512x512 .f32) : List (View.Piece (Elt F) S1x512x512 .fp8e4m3) :=
  [⟨Rect.unit (s := S1x512x512) ![0, 384, 0] S1x128x512.size inb_S1x512x512_S1x128x512_0_384_0, codesStrip (View.ld o (Rect.unit (s := S512x512) ![0, 384] S512x128.size inb_S512x512_S512x128_0_384))⟩,
   ⟨Rect.unit (s := S1x512x512) ![0, 256, 0] S1x128x512.size inb_S1x512x512_S1x128x512_0_256_0, codesStrip (View.ld o (Rect.unit (s := S512x512) ![0, 256] S512x128.size inb_S512x512_S512x128_0_256))⟩,
   ⟨Rect.unit (s := S1x512x512) ![0, 128, 0] S1x128x512.size inb_S1x512x512_S1x128x512_0_128_0, codesStrip (View.ld o (Rect.unit (s := S512x512) ![0, 128] S512x128.size inb_S512x512_S512x128_0_128))⟩,
   ⟨Rect.unit (s := S1x512x512) ![0, 0, 0] S1x128x512.size inb_S1x512x512_S1x128x512_0_0_0, codesStrip (View.ld o (Rect.unit (s := S512x512) ![0, 0] S512x128.size inb_S512x512_S512x128_0_0))⟩]

/-- The stores of the scales, last first. -/
noncomputable def scalePieces (o : Vec F S512x512 .f32) : List (View.Piece (Elt F) S1x512x16 .f32) :=
  [⟨Rect.unit (s := S1x512x16) ![0, 384, 0] S1x128x16.size inb_S1x512x16_S1x128x16_0_384_0, scaleStrip (View.ld o (Rect.unit (s := S512x512) ![0, 384] S512x128.size inb_S512x512_S512x128_0_384))⟩,
   ⟨Rect.unit (s := S1x512x16) ![0, 256, 0] S1x128x16.size inb_S1x512x16_S1x128x16_0_256_0, scaleStrip (View.ld o (Rect.unit (s := S512x512) ![0, 256] S512x128.size inb_S512x512_S512x128_0_256))⟩,
   ⟨Rect.unit (s := S1x512x16) ![0, 128, 0] S1x128x16.size inb_S1x512x16_S1x128x16_0_128_0, scaleStrip (View.ld o (Rect.unit (s := S512x512) ![0, 128] S512x128.size inb_S512x512_S512x128_0_128))⟩,
   ⟨Rect.unit (s := S1x512x16) ![0, 0, 0] S1x128x16.size inb_S1x512x16_S1x128x16_0_0_0, scaleStrip (View.ld o (Rect.unit (s := S512x512) ![0, 0] S512x128.size inb_S512x512_S512x128_0_0))⟩]

/-- The quantised values, the codes and the scales of a block. -/
noncomputable def actOf (o : Vec F S512x512 .f32) : Vec F S512x512 .bf16 := View.canon (actPieces o)
noncomputable def codesOf (o : Vec F S512x512 .f32) : Vec F S1x512x512 .fp8e4m3 := View.canon (codePieces o)
noncomputable def scalesOf (o : Vec F S512x512 .f32) : Vec F S1x512x16 .f32 := View.canon (scalePieces o)

/-- The weight as stored in bf16. -/
noncomputable def weightOf (w : Vec F S512x512 .fp8e4m3) : Vec F S512x512 .bf16 :=
  View.canon [⟨(Rect.unit (s := S512x512) ![0, 0] S512x512.size inb_S512x512_S512x512_0_0), shapeCast S512x512 (extf .bf16 (View.ld w (Rect.unit (s := S512x512) ![0, 0] S512x512.size inb_S512x512_S512x512_0_0)) bitsLt_fp8e4m3_bf16) shapeCasts_S512x512_S512x512⟩]

/-- The projection of the quantised values `a` by the weight `w`, scaled and biased. -/
noncomputable def project (a w : Vec F S512x512 .bf16) (s b : Vec F S1x512 .f32) : FVec F S512x512 .f32 :=
  addf (mulf (matmul dot_S512x512_S512x512_S512x512_1_0_0_1_n_n none a w (constant S512x512 .f32 0x00000000#32))
    (broadcastTo S512x512 (shapeCast S1x512 s shapeCasts_S1x512_S1x512) broadcasts_S1x512_S512x512))
    (broadcastTo S512x512 (shapeCast S1x512 b shapeCasts_S1x512_S1x512) broadcasts_S1x512_S512x512)

/-- The projection of a block, and its residual plus its projection, as stored. -/
noncomputable def projStore (a w : Vec F S512x512 .bf16) (s b : Vec F S1x512 .f32) : FVec F S1x512x512 .bf16 :=
  shapeCast S1x512x512 (truncf .bf16 (project a w s b) bitsLt_bf16_f32) shapeCasts_S512x512_S1x512x512
noncomputable def resStore (x : Vec F S1x512x512 .bf16) (a w : Vec F S512x512 .bf16) (s b : Vec F S1x512 .f32) : FVec F S1x512x512 .bf16 :=
  shapeCast S1x512x512 (truncf .bf16 (addf (extf .f32 (shapeCast S512x512 x shapeCasts_S1x512x512_S512x512) bitsLt_bf16_f32)
    (project a w s b)) bitsLt_bf16_f32) shapeCasts_S512x512_S1x512x512

/-- What the epilogue leaves in the first two results' buffers. -/
noncomputable def projOf (a w : Vec F S512x512 .bf16) (s b : Vec F S1x512 .f32) : Vec F S1x512x512 .bf16 :=
  View.canon [⟨(Rect.unit (s := S1x512x512) ![0, 0, 0] S1x512x512.size inb_S1x512x512_S1x512x512_0_0_0), projStore (View.ld a (Rect.unit (s := S512x512) ![0, 0] S512x512.size inb_S512x512_S512x512_0_0)) (View.ld w (Rect.unit (s := S512x512) ![0, 0] S512x512.size inb_S512x512_S512x512_0_0)) (View.ld s (Rect.unit (s := S1x512) ![0, 0] S1x512.size inb_S1x512_S1x512_0_0)) (View.ld b (Rect.unit (s := S1x512) ![0, 0] S1x512.size inb_S1x512_S1x512_0_0))⟩]
noncomputable def resOf (x : Vec F S1x512x512 .bf16) (a w : Vec F S512x512 .bf16) (s b : Vec F S1x512 .f32) : Vec F S1x512x512 .bf16 :=
  View.canon [⟨(Rect.unit (s := S1x512x512) ![0, 0, 0] S1x512x512.size inb_S1x512x512_S1x512x512_0_0_0), resStore (View.ld x (Rect.unit (s := S1x512x512) ![0, 0, 0] S1x512x512.size inb_S1x512x512_S1x512x512_0_0_0)) (View.ld a (Rect.unit (s := S512x512) ![0, 0] S512x512.size inb_S512x512_S512x512_0_0)) (View.ld w (Rect.unit (s := S512x512) ![0, 0] S512x512.size inb_S512x512_S512x512_0_0)) (View.ld s (Rect.unit (s := S1x512) ![0, 0] S1x512.size inb_S1x512_S1x512_0_0)) (View.ld b (Rect.unit (s := S1x512) ![0, 0] S1x512.size inb_S1x512_S1x512_0_0))⟩]

/-- The quantised values as read back after the four strips' stores. -/
theorem readBack (a : Memref sig .tc .vmem S512x512 .bf16) (o : Vec F S512x512 .f32) :
    a.view.readCov (actPieces o) (Rect.unit (s := S512x512) ![0, 0] S512x512.size inb_S512x512_S512x512_0_0).toLoadRect = View.ld (actOf o) (Rect.unit (s := S512x512) ![0, 0] S512x512.size inb_S512x512_S512x512_0_0) :=
  View.readCov_eq_canon' a.view (actPieces o) _

theorem projStore_readBack (a : Memref sig .tc .vmem S512x512 .bf16) (o : Vec F S512x512 .f32) (w : Vec F S512x512 .bf16) (s b : Vec F S1x512 .f32) :
    (View.canon [⟨(Rect.unit (s := S1x512x512) ![0, 0, 0] S1x512x512.size inb_S1x512x512_S1x512x512_0_0_0), projStore (a.view.readCov (actPieces o) (Rect.unit (s := S512x512) ![0, 0] S512x512.size inb_S512x512_S512x512_0_0).toLoadRect) (View.ld w (Rect.unit (s := S512x512) ![0, 0] S512x512.size inb_S512x512_S512x512_0_0)) (View.ld s (Rect.unit (s := S1x512) ![0, 0] S1x512.size inb_S1x512_S1x512_0_0)) (View.ld b (Rect.unit (s := S1x512) ![0, 0] S1x512.size inb_S1x512_S1x512_0_0))⟩] : Vec F S1x512x512 .bf16) = projOf (actOf o) w s b := by
  rw [readBack]; rfl

theorem resStore_readBack (a : Memref sig .tc .vmem S512x512 .bf16) (x : Vec F S1x512x512 .bf16) (o : Vec F S512x512 .f32) (w : Vec F S512x512 .bf16) (s b : Vec F S1x512 .f32) :
    (View.canon [⟨(Rect.unit (s := S1x512x512) ![0, 0, 0] S1x512x512.size inb_S1x512x512_S1x512x512_0_0_0), resStore (View.ld x (Rect.unit (s := S1x512x512) ![0, 0, 0] S1x512x512.size inb_S1x512x512_S1x512x512_0_0_0)) (a.view.readCov (actPieces o) (Rect.unit (s := S512x512) ![0, 0] S512x512.size inb_S512x512_S512x512_0_0).toLoadRect) (View.ld w (Rect.unit (s := S512x512) ![0, 0] S512x512.size inb_S512x512_S512x512_0_0)) (View.ld s (Rect.unit (s := S1x512) ![0, 0] S1x512.size inb_S1x512_S1x512_0_0)) (View.ld b (Rect.unit (s := S1x512) ![0, 0] S1x512.size inb_S1x512_S1x512_0_0))⟩] : Vec F S1x512x512 .bf16) = resOf x (actOf o) w s b := by
  rw [readBack]; rfl

end Cert.KernelIdeal.Gen

end
-- ==== Proof.Attn.Inv.lean ====
/- What the scratch buffers hold at each point of the pipelined attention kernel, block by block: the block whose
   scores were written last, the one whose exponentials were, and the one whose attention output was. -/
module

public import proofs.«01_k».proof.Proof.Attn.Stage

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Grid point number `n` (of 45). -/
def pt (n : ℕ) : Fin cfg0.N := ⟨n % 45, lt_of_lt_of_eq (Nat.mod_lt n (by omega)) N_0.symm⟩

theorem pt_val (n : ℕ) (h : n < 45) : (pt n).val = n := Nat.mod_eq_of_lt h

theorem pt_self (t : Fin cfg0.N) : pt t.val = t := Fin.ext (pt_val _ (lt_of_lt_of_eq t.isLt N_0))

/-- Block `n`'s transposed scores, -/
def scoresAt (c : Dev nD) (n : ℕ) : Vec F S3072x512 .f32 := scoresOf (iblk m c 0 (pt n)) (iblk m c 1 (pt n))
/-- the running maximum of each of its rows, -/
def maxAt (c : Dev nD) (n : ℕ) : Vec F S8x512 .f32 := maxOf (iblk m c 0 (pt n)) (iblk m c 1 (pt n))
/-- its exponentials, -/
def expsAt (c : Dev nD) (n : ℕ) : Vec F S3072x512 .f32 := expsOf (scoresAt m c n) (maxAt m c n)
/-- the reciprocal of each row's sum, -/
def recipAt (c : Dev nD) (n : ℕ) : Vec F S8x512 .f32 := recipOf (scoresAt m c n) (maxAt m c n)
/-- its transposed attention output (the values' block comes two points later), -/
def outAt (c : Dev nD) (n : ℕ) : Vec F S512x512 .f32 := outOf (expsAt m c n) (recipAt m c n) (iblk m c 2 (pt (n + 2)))
/-- the output weights as stored at the first point, -/
def weightAt (c : Dev nD) : Vec F S512x512 .bf16 := weightOf (iblk m c 4 (pt 0))
/-- and the four results of the block: the residual sum, -/
def resAt (c : Dev nD) (n : ℕ) : Vec F S1x512x512 .bf16 :=
  resOf (iblk m c 3 (pt (n + 3))) (actOf (outAt m c n)) (weightAt m c) (iblk m c 5 (pt (n + 3))) (iblk m c 6 (pt (n + 3)))
/-- the projection, -/
def projAt (c : Dev nD) (n : ℕ) : Vec F S1x512x512 .bf16 :=
  projOf (actOf (outAt m c n)) (weightAt m c) (iblk m c 5 (pt (n + 3))) (iblk m c 6 (pt (n + 3)))
/-- the codes, -/
def codesAt (c : Dev nD) (n : ℕ) : Vec F S1x512x512 .fp8e4m3 := codesOf (outAt m c n)
/-- and the scales. -/
def scalesAt (c : Dev nD) (n : ℕ) : Vec F S1x512x16 .f32 := scalesOf (outAt m c n)

/-- What the scratch holds before point `k`. -/
structure Inv (c : Dev nD) (k : ℕ) (s0 s1 : Vec F S3072x512 .f32) (s2 s3 : Vec F S8x512 .f32) (s4 : Vec F S512x512 .f32)
    (s6 : Vec F S512x512 .bf16) : Prop where
  w : 1 ≤ k → s6 = weightAt m c
  s : 1 ≤ k → k ≤ 42 → s0 = scoresAt m c (k - 1) ∧ s2 = maxAt m c (k - 1)
  e : 2 ≤ k → k ≤ 43 → s1 = expsAt m c (k - 2) ∧ s3 = recipAt m c (k - 2)
  o : 3 ≤ k → k ≤ 44 → s4 = outAt m c (k - 3)

/-- The same of a choice of all contents. -/
abbrev InvV (c : Dev nD) (k : ℕ) (v : Vals F) : Prop := Inv m c k v.s0 v.s1 v.s2 v.s3 v.s4 v.s6

/-- The input windows hold their blocks of point `t`. -/
structure Ins (c : Dev nD) (t : Fin cfg0.N) (v : Vals F) : Prop where
  x0 : v.x0 = iblk m c 0 t
  x1 : v.x1 = iblk m c 1 t
  x2 : v.x2 = iblk m c 2 t
  x3 : v.x3 = iblk m c 3 t
  x4 : v.x4 = iblk m c 4 t
  x5 : v.x5 = iblk m c 5 t
  x6 : v.x6 = iblk m c 6 t

/-- What is claimed of the output windows after point `t`. -/
structure Outs (c : Dev nD) (t : ℕ) (v : Vals F) : Prop where
  y0 : 3 ≤ t → v.y0 = resAt m c (t - 3)
  y1 : 3 ≤ t → v.y1 = projAt m c (t - 3)
  y2 : 3 ≤ t → v.y2 = codesAt m c (t - 3)
  y3 : 3 ≤ t → v.y3 = scalesAt m c (t - 3)

end Cert.KernelIdeal.Gen

end
-- ==== Proof.Attn.Data.lean ====
/- The kernel's pipeline read with a stated invariant: what each point is handed, what it gives back, and the passage from a run of
   the body on named contents to the pipeline's obligation at a point. -/
module

public import proofs.«01_k».proof.Proof.Attn.Inv
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The windows whose contents are stated by a relation: the outputs. -/
def marked (w : Fin cfg0.W) : Bool := decide (7 ≤ w.val)

/-- What an output window holds after point `t`: from the fourth point on, the results of the block three points back. -/
def leavesRel (c : Dev nD) (w : Fin cfg0.W) (t : Fin cfg0.N) (X : (cfg0.win w).block.Idx → Elt F (cfg0.win w).elt) : Prop :=
  match w, X with
  | ⟨7, _⟩, X => 3 ≤ t.val → X = resAt m c (t.val - 3)
  | ⟨8, _⟩, X => 3 ≤ t.val → X = projAt m c (t.val - 3)
  | ⟨9, _⟩, X => 3 ≤ t.val → X = codesAt m c (t.val - 3)
  | ⟨10, _⟩, X => 3 ≤ t.val → X = scalesAt m c (t.val - 3)
  | _, _ => True

/-- The scratch buffers at contents that meet the invariant before point `k`, and the generator register at some state. -/
def Phi (c : Dev nD) (k : ℕ) : sProp 𝕄 :=
  iprop((∃ s0 s1 s2 s3 s4 s5 s6, ⌜Inv m c k s0 s1 s2 s3 s4 s6⌝ ∗ owns (c : Thread nD τ) scM0_0 fullShare s0
      ∗ owns (c : Thread nD τ) scM0_1 fullShare s1
      ∗ owns (c : Thread nD τ) scM0_2 fullShare s2
      ∗ owns (c : Thread nD τ) scM0_3 fullShare s3
      ∗ owns (c : Thread nD τ) scM0_4 fullShare s4
      ∗ owns (c : Thread nD τ) scM0_5 fullShare s5
      ∗ owns (c : Thread nD τ) scM0_6 fullShare s6) ∗ (∃ r, prngReg c r))

/-- The pipeline's proof data: inputs left in place, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel marked (leavesRel m c)).Finds 7 t Y⌝ ∗ owns (c : Thread nD τ) (ms0_7 t) fullShare Y)
    ∗ (∃ Y, ⌜((dats m 0 c).toRRel marked (leavesRel m c)).Finds 8 t Y⌝ ∗ owns (c : Thread nD τ) (ms0_8 t) fullShare Y)
    ∗ (∃ Y, ⌜((dats m 0 c).toRRel marked (leavesRel m c)).Finds 9 t Y⌝ ∗ owns (c : Thread nD τ) (ms0_9 t) fullShare Y)
    ∗ (∃ Y, ⌜((dats m 0 c).toRRel marked (leavesRel m c)).Finds 10 t Y⌝ ∗ owns (c : Thread nD τ) (ms0_10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜leavesRel m c 7 t X⌝ ∗ owns (c : Thread nD τ) (ms0_7 t) fullShare X)
    ∗ (∃ X, ⌜leavesRel m c 8 t X⌝ ∗ owns (c : Thread nD τ) (ms0_8 t) fullShare X)
    ∗ (∃ X, ⌜leavesRel m c 9 t X⌝ ∗ owns (c : Thread nD τ) (ms0_9 t) fullShare X)
    ∗ (∃ X, ⌜leavesRel m c 10 t X⌝ ∗ owns (c : Thread nD τ) (ms0_10 t) fullShare X))

/-- The buffers the body is called with at point `t`. -/
def memsAt (t : Fin cfg0.N) : Mems := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _⟩

/-- A run of the body on named contents that carries the invariant forward gives the pipeline's obligation at its point. -/
theorem body_of (c : Dev nD) (t : Fin cfg0.N) (step : Vals F → Vals F)
    (hrun : ∀ (v : Vals F) (E : Set ℕ) (K : PUnit → sProp 𝕄), iprop((memsAt t).held c v ∗ ((memsAt t).held c (step v) -∗ K ⟨⟩))
      ⊢ wp frame (wpE (defs₀ (F := F)) Variants.none c none) E (bodyOn (memsAt t) (grid0.coords t)) K)
    (hx : ∀ v, Ins m c t v → Ins m c t (step v))
    (hs : ∀ v, Ins m c t v → InvV m c t.val v → InvV m c (t.val + 1) (step v))
    (hy : ∀ v, Ins m c t v → InvV m c t.val v → Outs m c t.val (step v)) :
    bodyPre m c t ⊢ wp frame (wpE (defs₀ (F := F)) Variants.none c none) Set.univ (bodyAt0 t) fun _ => bodyPost m c t := by
  unfold bodyPre bodyPost
  rw [show (dats m 0 c).Φ t.castSucc = Phi m c t.val from rfl, show (dats m 0 c).Φ t.succ = Phi m c (t.val + 1) from rfl,
    show (dats m 0 c).owesAt () t.succ = (dats m 0 c).owesAt () t.castSucc from rfl]
  simp only [before0_0, after0_0, before0_1, after0_1, before0_2, after0_2, before0_3, after0_3, before0_4, after0_4, before0_5, after0_5, before0_6, after0_6]
  unfold Phi
  iintro ⟨⟨⟨%s0, %s1, %s2, %s3, %s4, %s5, %s6, %hinv, S0, S1, S2, S3, S4, S5, S6⟩, Hg⟩, Ho, ⟨%d0, X0⟩, ⟨%d1, X1⟩, ⟨%d2, X2⟩, ⟨%d3, X3⟩, ⟨%d4, X4⟩, ⟨%d5, X5⟩, ⟨%d6, X6⟩, ⟨%Y7, %hY7, X7⟩, ⟨%Y8, %hY8, X8⟩, ⟨%Y9, %hY9, X9⟩, ⟨%Y10, %hY10, X10⟩⟩
  have hins : Ins m c t (⟨iblk m c 0 t, iblk m c 1 t, iblk m c 2 t, iblk m c 3 t, iblk m c 4 t, iblk m c 5 t, iblk m c 6 t, Y7, Y8, Y9, Y10, s0, s1, s2, s3, s4, s5, s6⟩ : Vals F) := ⟨rfl, rfl, rfl, rfl, rfl, rfl, rfl⟩
  have hx' := hx _ hins
  have hs' := hs _ hins hinv
  have hy' := hy _ hins hinv
  iapply (hrun (⟨iblk m c 0 t, iblk m c 1 t, iblk m c 2 t, iblk m c 3 t, iblk m c 4 t, iblk m c 5 t, iblk m c 6 t, Y7, Y8, Y9, Y10, s0, s1, s2, s3, s4, s5, s6⟩ : Vals F) Set.univ _)
  isplitl [X0 X1 X2 X3 X4 X5 X6 X7 X8 X9 X10 S0 S1 S2 S3 S4 S5 S6]
  · unfold Mems.held memsAt
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [S0]; · iexact S0
    isplitl [S1]; · iexact S1
    isplitl [S2]; · iexact S2
    isplitl [S3]; · iexact S3
    isplitl [S4]; · iexact S4
    isplitl [S5]; · iexact S5
    iexact S6
  generalize step _ = v' at hx' hs' hy'
  unfold Mems.held memsAt
  iintro ⟨X0, X1, X2, X3, X4, X5, X6, X7, X8, X9, X10, S0, S1, S2, S3, S4, S5, S6⟩
  rw [← hx'.x0, ← hx'.x1, ← hx'.x2, ← hx'.x3, ← hx'.x4, ← hx'.x5, ← hx'.x6]
  isplitl [Hg S0 S1 S2 S3 S4 S5 S6]
  · isplitr [Hg]
    · iexists v'.s0, v'.s1, v'.s2, v'.s3, v'.s4, v'.s5, v'.s6
      isplitr
      · ipureintro; exact hs'
      isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]
  · iexists v'.y0; isplitr
    · ipureintro; exact hy'.y0
    · iexact X7
  isplitl [X8]
  · iexists v'.y1; isplitr
    · ipureintro; exact hy'.y1
    · iexact X8
  isplitl [X9]
  · iexists v'.y2; isplitr
    · ipureintro; exact hy'.y2
    · iexact X9
  iexists v'.y3; isplitr
  · ipureintro; exact hy'.y3
  · iexact X10

end Cert.KernelIdeal.Gen

end
-- ==== Proof.Attn.Steps.lean ====
/- How one point's run carries the invariant to the next point and what it leaves in the output windows. -/
module

public import proofs.«01_k».proof.Proof.Attn.Inv

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- What one point does to the contents: the inputs stay, and each stage in force at point `k` writes its results. -/
structure Steps (k : ℕ) (v v' : Vals F) : Prop where
  x : v'.x0 = v.x0 ∧ v'.x1 = v.x1 ∧ v'.x2 = v.x2 ∧ v'.x3 = v.x3 ∧ v'.x4 = v.x4 ∧ v'.x5 = v.x5 ∧ v'.x6 = v.x6
  w0 : k = 0 → v'.s6 = weightOf v.x4
  w : 1 ≤ k → v'.s6 = v.s6
  s : k ≤ 41 → v'.s0 = scoresOf v.x0 v.x1 ∧ v'.s2 = maxOf v.x0 v.x1
  e : 1 ≤ k → k ≤ 42 → v'.s1 = expsOf v.s0 v.s2 ∧ v'.s3 = recipOf v.s0 v.s2
  o : 2 ≤ k → k ≤ 43 → v'.s4 = outOf v.s1 v.s3 v.x2
  y : 3 ≤ k → v'.y0 = resOf v.x3 (actOf v.s4) v.s6 v.x5 v.x6 ∧ v'.y1 = projOf (actOf v.s4) v.s6 v.x5 v.x6
    ∧ v'.y2 = codesOf v.s4 ∧ v'.y3 = scalesOf v.s4

variable {m} {c : Dev nD} {t : Fin cfg0.N} {v v' : Vals F}

theorem Steps.ins (h : Steps t.val v v') (hi : Ins m c t v) : Ins m c t v' := by
  obtain ⟨e0, e1, e2, e3, e4, e5, e6⟩ := h.x
  exact ⟨e0.trans hi.x0, e1.trans hi.x1, e2.trans hi.x2, e3.trans hi.x3, e4.trans hi.x4, e5.trans hi.x5, e6.trans hi.x6⟩

/-- The invariant one point later. -/
theorem Steps.inv (h : Steps t.val v v') (hi : Ins m c t v) (hv : InvV m c t.val v) : InvV m c (t.val + 1) v' := by
  have hN : t.val < 45 := lt_of_lt_of_eq t.isLt N_0
  refine ⟨fun _ => ?_, fun _ h2 => ?_, fun h1 h2 => ?_, fun h1 h2 => ?_⟩
  · by_cases h0 : t.val = 0
    · have ht : t = pt 0 := Fin.ext (h0.trans (pt_val 0 (by omega)).symm)
      rw [h.w0 h0, hi.x4, weightAt, ht]
    · rw [h.w (by omega), hv.w (by omega)]
  · obtain ⟨a, b⟩ := h.s (by omega)
    rw [Nat.add_sub_cancel]
    refine ⟨?_, ?_⟩
    · rw [a, hi.x0, hi.x1, scoresAt, pt_self]
    · rw [b, hi.x0, hi.x1, maxAt, pt_self]
  · obtain ⟨a, b⟩ := h.e (by omega) (by omega)
    obtain ⟨p, q⟩ := hv.s (by omega) (by omega)
    rw [show t.val + 1 - 2 = t.val - 1 by omega]
    exact ⟨by rw [a, p, q]; rfl, by rw [b, p, q]; rfl⟩
  · have a := h.o (by omega) (by omega)
    obtain ⟨p, q⟩ := hv.e (by omega) (by omega)
    rw [show t.val + 1 - 3 = t.val - 2 by omega, a, p, q, hi.x2, outAt, show t.val - 2 + 2 = t.val by omega, pt_self]

/-- The output windows after the point. -/
theorem Steps.outs (h : Steps t.val v v') (hi : Ins m c t v) (hv : InvV m c t.val v) : Outs m c t.val v' := by
  have hN : t.val < 45 := lt_of_lt_of_eq t.isLt N_0
  by_cases h3 : 3 ≤ t.val
  · obtain ⟨a, b, d, e⟩ := h.y h3
    have o := hv.o h3 (by omega)
    have w := hv.w (by omega)
    refine ⟨fun _ => ?_, fun _ => ?_, fun _ => ?_, fun _ => ?_⟩
    · rw [a, o, w, hi.x3, hi.x5, hi.x6, resAt, show t.val - 3 + 3 = t.val by omega, pt_self]
    · rw [b, o, w, hi.x5, hi.x6, projAt, show t.val - 3 + 3 = t.val by omega, pt_self]
    · rw [d, o, codesAt]
    · rw [e, o, scalesAt]
  · exact ⟨fun h => absurd h h3, fun h => absurd h h3, fun h => absurd h h3, fun h => absurd h h3⟩

end Cert.KernelIdeal.Gen

end
-- ==== Proof.Attn.Cover.lean ====
/- The stores of each stage cover the buffer they go to. -/
module

public import proofs.«01_k».proof.Proof.Attn.Stage

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem scorePieces_cover (q : Vec F S1x512x512 .bf16) (k : Vec F S1x3072x512 .bf16) (y : S3072x512.Idx) : ∃ p ∈ scorePieces q k, y ∈ p.1.set :=
  View.cover_of_tiledL (scorePieces q k) S256x512.size (by sl_kernel_rfl) y

theorem expPieces_cover (s : Vec F S3072x512 .f32) (m : Vec F S8x512 .f32) (y : S3072x512.Idx) : ∃ p ∈ expPieces s m, y ∈ p.1.set :=
  View.cover_of_tiledL (expPieces s m) S256x512.size (by sl_kernel_rfl) y

theorem actPieces_cover (o : Vec F S512x512 .f32) (y : S512x512.Idx) : ∃ p ∈ actPieces o, y ∈ p.1.set :=
  View.cover_of_tiledL (actPieces o) S128x512.size (by sl_kernel_rfl) y

theorem codePieces_cover (o : Vec F S512x512 .f32) (y : S1x512x512.Idx) : ∃ p ∈ codePieces o, y ∈ p.1.set :=
  View.cover_of_tiledL (codePieces o) S1x128x512.size (by sl_kernel_rfl) y

theorem scalePieces_cover (o : Vec F S512x512 .f32) (y : S1x512x16.Idx) : ∃ p ∈ scalePieces o, y ∈ p.1.set :=
  View.cover_of_tiledL (scalePieces o) S1x128x16.size (by sl_kernel_rfl) y

theorem cover8 {e : EltTy} (w : S8x512.Idx → Elt F e) (y : S8x512.Idx) :
    ∃ p ∈ ([⟨Rect.unit (s := S8x512) ![0, 0] S8x512.size inb_S8x512_S8x512_0_0, w⟩] : List (View.Piece (Elt F) S8x512 e)), y ∈ p.1.set :=
  View.cover_of_tiledL _ S8x512.size (by sl_kernel_rfl) y

theorem coverS {e : EltTy} (w : S512x512.Idx → Elt F e) (y : S512x512.Idx) :
    ∃ p ∈ ([⟨Rect.unit (s := S512x512) ![0, 0] S512x512.size inb_S512x512_S512x512_0_0, w⟩] : List (View.Piece (Elt F) S512x512 e)), y ∈ p.1.set :=
  View.cover_of_tiledL _ S512x512.size (by sl_kernel_rfl) y

theorem coverY {e : EltTy} (w : S1x512x512.Idx → Elt F e) (y : S1x512x512.Idx) :
    ∃ p ∈ ([⟨Rect.unit (s := S1x512x512) ![0, 0, 0] S1x512x512.size inb_S1x512x512_S1x512x512_0_0_0, w⟩] : List (View.Piece (Elt F) S1x512x512 e)), y ∈ p.1.set :=
  View.cover_of_tiledL _ S1x512x512.size (by sl_kernel_rfl) y

end Cert.KernelIdeal.Gen

end
-- ==== Proof.Attn.RunA.lean ====
/- The run of the attention kernel's body at the first point: the scores of the first block, and the weight in bf16. -/
module

public import proofs.«01_k».proof.Proof.Attn.Cover

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the buffers hold after the body at the first point: the scores of the first block, and the weight in bf16. -/
noncomputable abbrev Vals.stepA (v : Vals F) : Vals F :=
  { v with s0 := scoresOf v.x0 v.x1, s2 := maxOf v.x0 v.x1, s6 := weightOf v.x4 }

set_option maxHeartbeats 1600000 in
theorem runA (B : Mems) (c : Dev nD) (i : grid0.Coords) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (v : Vals F) (E : Set ℕ) (K : PUnit → sProp 𝕄) :
    iprop(B.held c v ∗ (B.held c v.stepA -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Vals.stepA, cc0_attn_out_eq_skeleton]; unfold cc0_attn_out_skel
  simp only [k0_part1_eq_skeleton, k0_part2_eq_skeleton, k0_part3_eq_skeleton, k0_part4_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; exact View.read_writes_eq_canon _ _ _ (scorePieces_cover _ _)
  isplitl [H13]
  · iexists _; isplitr; swap; · iexact H13
    ipureintro; rfl
  isplitl [H14]
  · iexists _; isplitr; swap; · iexact H14
    ipureintro; exact View.read_writes_eq_canon _ _ _ (cover8 _)
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  iexists _; isplitr; swap; · iexact H18
  ipureintro; exact View.read_writes_eq_canon _ _ _ (coverS _)

end Cert.KernelIdeal.Gen

end
-- ==== Proof.Attn.RunB.lean ====
/- The run of the attention kernel's body at the second point: QK and EX. -/
module

public import proofs.«01_k».proof.Proof.Attn.Cover

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the buffers hold after the body at the second point: QK and EX. -/
noncomputable abbrev Vals.stepB (v : Vals F) : Vals F :=
  { v with s0 := scoresOf v.x0 v.x1, s2 := maxOf v.x0 v.x1, s1 := expsOf v.s0 v.s2, s3 := recipOf v.s0 v.s2 }

set_option maxHeartbeats 1600000 in
theorem runB (B : Mems) (c : Dev nD) (i : grid0.Coords) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (v : Vals F) (E : Set ℕ) (K : PUnit → sProp 𝕄) :
    iprop(B.held c v ∗ (B.held c v.stepB -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Vals.stepB, cc0_attn_out_eq_skeleton]; unfold cc0_attn_out_skel
  simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; exact View.read_writes_eq_canon _ _ _ (scorePieces_cover _ _)
  isplitl [H13]
  · iexists _; isplitr; swap; · iexact H13
    ipureintro; exact View.read_writes_eq_canon _ _ _ (expPieces_cover _ _)
  isplitl [H14]
  · iexists _; isplitr; swap; · iexact H14
    ipureintro; exact View.read_writes_eq_canon _ _ _ (cover8 _)
  isplitl [H15]
  · iexists _; isplitr; swap; · iexact H15
    ipureintro; exact View.read_writes_eq_canon _ _ _ (cover8 _)
  isplitl [H16]
  · iexists _; isplitr; swap; · iexact H16
    ipureintro; rfl
  isplitl [H17]
  · iexists _; isplitr; swap; · iexact H17
    ipureintro; rfl
  iexists _; isplitr; swap; · iexact H18
  ipureintro; rfl

end Cert.KernelIdeal.Gen

end
-- ==== Proof.Attn.RunC.lean ====
/- The run of the attention kernel's body at the third point: QK, EX and PV. -/
module

public import proofs.«01_k».proof.Proof.Attn.Cover

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the buffers hold after the body at the third point: QK, EX and PV. -/
noncomputable abbrev Vals.stepC (v : Vals F) : Vals F :=
  { v with s0 := scoresOf v.x0 v.x1, s2 := maxOf v.x0 v.x1, s1 := expsOf v.s0 v.s2, s3 := recipOf v.s0 v.s2, s4 := outOf v.s1 v.s3 v.x2 }

set_option maxHeartbeats 1600000 in
theorem runC (B : Mems) (c : Dev nD) (i : grid0.Coords) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (v : Vals F) (E : Set ℕ) (K : PUnit → sProp 𝕄) :
    iprop(B.held c v ∗ (B.held c v.stepC -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Vals.stepC, cc0_attn_out_eq_skeleton]; unfold cc0_attn_out_skel
  simp only [k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; exact View.read_writes_eq_canon _ _ _ (scorePieces_cover _ _)
  isplitl [H13]
  · iexists _; isplitr; swap; · iexact H13
    ipureintro; exact View.read_writes_eq_canon _ _ _ (expPieces_cover _ _)
  isplitl [H14]
  · iexists _; isplitr; swap; · iexact H14
    ipureintro; exact View.read_writes_eq_canon _ _ _ (cover8 _)
  isplitl [H15]
  · iexists _; isplitr; swap; · iexact H15
    ipureintro; exact View.read_writes_eq_canon _ _ _ (cover8 _)
  isplitl [H16]
  · iexists _; isplitr; swap; · iexact H16
    ipureintro; exact View.read_writes_eq_canon _ _ _ (coverS _)
  isplitl [H17]
  · iexists _; isplitr; swap; · iexact H17
    ipureintro; rfl
  iexists _; isplitr; swap; · iexact H18
  ipureintro; rfl

end Cert.KernelIdeal.Gen

end
-- ==== Proof.Attn.RunD.lean ====
/- The run of the attention kernel's body at an inner point: all four stages. -/
module

public import proofs.«01_k».proof.Proof.Attn.Cover

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the buffers hold after the body at an inner point: all four stages. -/
noncomputable abbrev Vals.stepD (v : Vals F) : Vals F :=
  { v with s0 := scoresOf v.x0 v.x1, s2 := maxOf v.x0 v.x1, s1 := expsOf v.s0 v.s2, s3 := recipOf v.s0 v.s2, s4 := outOf v.s1 v.s3 v.x2, s5 := actOf v.s4, y2 := codesOf v.s4, y3 := scalesOf v.s4, y1 := projOf (actOf v.s4) v.s6 v.x5 v.x6, y0 := resOf v.x3 (actOf v.s4) v.s6 v.x5 v.x6 }

set_option maxHeartbeats 16000000 in
theorem runD (B : Mems) (c : Dev nD) (i : grid0.Coords) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i)
    (v : Vals F) (E : Set ℕ) (K : PUnit → sProp 𝕄) :
    iprop(B.held c v ∗ (B.held c v.stepD -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Vals.stepD, cc0_attn_out_eq_skeleton]; unfold cc0_attn_out_skel
  rw [k0_part101_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact (View.read_writes_eq_canon _ _ _ (coverY _)).trans (resStore_readBack a17 (a4.view.read (Elt F) f4) (a16.view.read (Elt F) f16) (a18.view.read (Elt F) f18) (a6.view.read (Elt F) f6) (a7.view.read (Elt F) f7))
  isplitl [H9]
  · iexists _; isplitr; swap; · iexact H9
    ipureintro; exact (View.read_writes_eq_canon _ _ _ (coverY _)).trans (projStore_readBack a17 (a16.view.read (Elt F) f16) (a18.view.read (Elt F) f18) (a6.view.read (Elt F) f6) (a7.view.read (Elt F) f7))
  isplitl [H10]
  · iexists _; isplitr; swap; · iexact H10
    ipureintro; exact View.read_writes_eq_canon _ _ _ (codePieces_cover _)
  isplitl [H11]
  · iexists _; isplitr; swap; · iexact H11
    ipureintro; exact View.read_writes_eq_canon _ _ _ (scalePieces_cover _)
  isplitl [H12]
  · iexists _; isplitr; swap; · iexact H12
    ipureintro; exact View.read_writes_eq_canon _ _ _ (scorePieces_cover _ _)
  isplitl [H13]
  · iexists _; isplitr; swap; · iexact H13
    ipureintro; exact View.read_writes_eq_canon _ _ _ (expPieces_cover _ _)
  isplitl [H14]
  · iexists _; isplitr; swap; · iexact H14
    ipureintro; exact View.read_writes_eq_canon _ _ _ (cover8 _)
  isplitl [H15]
  · iexists _; isplitr; swap; · iexact H15
    ipureintro; exact View.read_writes_eq_canon _ _ _ (cover8 _)
  isplitl [H16]
  · iexists _; isplitr; swap; · iexact H16
    ipureintro; exact View.read_writes_eq_canon _ _ _ (coverS _)
  isplitl [H17]
  · iexists _; isplitr; swap; · iexact H17
    ipureintro; exact View.read_writes_eq_canon _ _ _ (actPieces_cover _)
  iexists _; isplitr; swap; · iexact H18
  ipureintro; rfl

end Cert.KernelIdeal.Gen

end
-- ==== Proof.Attn.RunE.lean ====
/- The run of the attention kernel's body at the first point of the tail: EX, PV and the epilogue. -/
module

public import proofs.«01_k».proof.Proof.Attn.Cover

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the buffers hold after the body at the first point of the tail: EX, PV and the epilogue. -/
noncomputable abbrev Vals.stepE (v : Vals F) : Vals F :=
  { v with s1 := expsOf v.s0 v.s2, s3 := recipOf v.s0 v.s2, s4 := outOf v.s1 v.s3 v.x2, s5 := actOf v.s4, y2 := codesOf v.s4, y3 := scalesOf v.s4, y1 := projOf (actOf v.s4) v.s6 v.x5 v.x6, y0 := resOf v.x3 (actOf v.s4) v.s6 v.x5 v.x6 }

set_option maxHeartbeats 1600000 in
theorem runE (B : Mems) (c : Dev nD) (i : grid0.Coords) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    (v : Vals F) (E : Set ℕ) (K : PUnit → sProp 𝕄) :
    iprop(B.held c v ∗ (B.held c v.stepE -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Vals.stepE, cc0_attn_out_eq_skeleton]; unfold cc0_attn_out_skel
  simp only [k0_part25_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact (View.read_writes_eq_canon _ _ _ (coverY _)).trans (resStore_readBack a17 (a4.view.read (Elt F) f4) (a16.view.read (Elt F) f16) (a18.view.read (Elt F) f18) (a6.view.read (Elt F) f6) (a7.view.read (Elt F) f7))
  isplitl [H9]
  · iexists _; isplitr; swap; · iexact H9
    ipureintro; exact (View.read_writes_eq_canon _ _ _ (coverY _)).trans (projStore_readBack a17 (a16.view.read (Elt F) f16) (a18.view.read (Elt F) f18) (a6.view.read (Elt F) f6) (a7.view.read (Elt F) f7))
  isplitl [H10]
  · iexists _; isplitr; swap; · iexact H10
    ipureintro; exact View.read_writes_eq_canon _ _ _ (codePieces_cover _)
  isplitl [H11]
  · iexists _; isplitr; swap; · iexact H11
    ipureintro; exact View.read_writes_eq_canon _ _ _ (scalePieces_cover _)
  isplitl [H12]
  · iexists _; isplitr; swap; · iexact H12
    ipureintro; rfl
  isplitl [H13]
  · iexists _; isplitr; swap; · iexact H13
    ipureintro; exact View.read_writes_eq_canon _ _ _ (expPieces_cover _ _)
  isplitl [H14]
  · iexists _; isplitr; swap; · iexact H14
    ipureintro; rfl
  isplitl [H15]
  · iexists _; isplitr; swap; · iexact H15
    ipureintro; exact View.read_writes_eq_canon _ _ _ (cover8 _)
  isplitl [H16]
  · iexists _; isplitr; swap; · iexact H16
    ipureintro; exact View.read_writes_eq_canon _ _ _ (coverS _)
  isplitl [H17]
  · iexists _; isplitr; swap; · iexact H17
    ipureintro; exact View.read_writes_eq_canon _ _ _ (actPieces_cover _)
  iexists _; isplitr; swap; · iexact H18
  ipureintro; rfl

end Cert.KernelIdeal.Gen

end
-- ==== Proof.Attn.RunF.lean ====
/- The run of the attention kernel's body at the second point of the tail: PV and the epilogue. -/
module

public import proofs.«01_k».proof.Proof.Attn.Cover

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the buffers hold after the body at the second point of the tail: PV and the epilogue. -/
noncomputable abbrev Vals.stepF (v : Vals F) : Vals F :=
  { v with s4 := outOf v.s1 v.s3 v.x2, s5 := actOf v.s4, y2 := codesOf v.s4, y3 := scalesOf v.s4, y1 := projOf (actOf v.s4) v.s6 v.x5 v.x6, y0 := resOf v.x3 (actOf v.s4) v.s6 v.x5 v.x6 }

set_option maxHeartbeats 1600000 in
theorem runF (B : Mems) (c : Dev nD) (i : grid0.Coords) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (v : Vals F) (E : Set ℕ) (K : PUnit → sProp 𝕄) :
    iprop(B.held c v ∗ (B.held c v.stepF -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Vals.stepF, cc0_attn_out_eq_skeleton]; unfold cc0_attn_out_skel
  simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact (View.read_writes_eq_canon _ _ _ (coverY _)).trans (resStore_readBack a17 (a4.view.read (Elt F) f4) (a16.view.read (Elt F) f16) (a18.view.read (Elt F) f18) (a6.view.read (Elt F) f6) (a7.view.read (Elt F) f7))
  isplitl [H9]
  · iexists _; isplitr; swap; · iexact H9
    ipureintro; exact (View.read_writes_eq_canon _ _ _ (coverY _)).trans (projStore_readBack a17 (a16.view.read (Elt F) f16) (a18.view.read (Elt F) f18) (a6.view.read (Elt F) f6) (a7.view.read (Elt F) f7))
  isplitl [H10]
  · iexists _; isplitr; swap; · iexact H10
    ipureintro; exact View.read_writes_eq_canon _ _ _ (codePieces_cover _)
  isplitl [H11]
  · iexists _; isplitr; swap; · iexact H11
    ipureintro; exact View.read_writes_eq_canon _ _ _ (scalePieces_cover _)
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; exact View.read_writes_eq_canon _ _ _ (coverS _)
  isplitl [H17]
  · iexists _; isplitr; swap; · iexact H17
    ipureintro; exact View.read_writes_eq_canon _ _ _ (actPieces_cover _)
  iexists _; isplitr; swap; · iexact H18
  ipureintro; rfl

end Cert.KernelIdeal.Gen

end
-- ==== Proof.Attn.RunG.lean ====
/- The run of the attention kernel's body at the last point: the epilogue. -/
module

public import proofs.«01_k».proof.Proof.Attn.Cover

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the buffers hold after the body at the last point: the epilogue. -/
noncomputable abbrev Vals.stepG (v : Vals F) : Vals F :=
  { v with s5 := actOf v.s4, y2 := codesOf v.s4, y3 := scalesOf v.s4, y1 := projOf (actOf v.s4) v.s6 v.x5 v.x6, y0 := resOf v.x3 (actOf v.s4) v.s6 v.x5 v.x6 }

set_option maxHeartbeats 1600000 in
theorem runG (B : Mems) (c : Dev nD) (i : grid0.Coords) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (v : Vals F) (E : Set ℕ) (K : PUnit → sProp 𝕄) :
    iprop(B.held c v ∗ (B.held c v.stepG -∗ K ⟨⟩)) ⊢ wp frame (wpE (defs₀ (F := F)) Variants.none c none) E (bodyOn B i) K := by
  obtain ⟨a1, h1, a2, h2, a3, h3, a4, h4, a5, h5, a6, h6, a7, h7, a8, h8, a9, h9, a10, h10, a11, h11, a12, h12, a13, h13, a14, h14,
    a15, h15, a16, h16, a17, h17, a18, h18⟩ := B
  obtain ⟨x0, x1, x2, x3, x4, x5, x6, y0, y1, y2, y3, s0, s1, s2, s3, s4, s5, s6⟩ := v
  simp only [bodyOn, Mems.held, Vals.stepG, cc0_attn_out_eq_skeleton]; unfold cc0_attn_out_skel
  simp only [k0_part75_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  subst hf1 hf2 hf3 hf4 hf5 hf6 hf7 hf8 hf9 hf10 hf11 hf12 hf13 hf14 hf15 hf16 hf17 hf18
  sl_exec (disch := first | sl_exact hc0 | sl_exact hc1 | sl_exact hc2 | sl_exact hc3 | sl_exact hc4 | sl_exact hc5 | sl_exact hc6 | sl_exact hc7)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact (View.read_writes_eq_canon _ _ _ (coverY _)).trans (resStore_readBack a17 (a4.view.read (Elt F) f4) (a16.view.read (Elt F) f16) (a18.view.read (Elt F) f18) (a6.view.read (Elt F) f6) (a7.view.read (Elt F) f7))
  isplitl [H9]
  · iexists _; isplitr; swap; · iexact H9
    ipureintro; exact (View.read_writes_eq_canon _ _ _ (coverY _)).trans (projStore_readBack a17 (a16.view.read (Elt F) f16) (a18.view.read (Elt F) f18) (a6.view.read (Elt F) f6) (a7.view.read (Elt F) f7))
  isplitl [H10]
  · iexists _; isplitr; swap; · iexact H10
    ipureintro; exact View.read_writes_eq_canon _ _ _ (codePieces_cover _)
  isplitl [H11]
  · iexists _; isplitr; swap; · iexact H11
    ipureintro; exact View.read_writes_eq_canon _ _ _ (scalePieces_cover _)
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; exact View.read_writes_eq_canon _ _ _ (actPieces_cover _)
  iexists _; isplitr; swap; · iexact H18
  ipureintro; rfl

end Cert.KernelIdeal.Gen

end
-- ==== Proof.Attn.Body.lean ====
/- The pipeline's body obligation: at each of its seven kinds of point the run of that kind applies. -/
module

public import proofs.«01_k».proof.Proof.Attn.Data
public import proofs.«01_k».proof.Proof.Attn.Steps
public import proofs.«01_k».proof.Proof.Attn.RunA
public import proofs.«01_k».proof.Proof.Attn.RunB
public import proofs.«01_k».proof.Proof.Attn.RunC
public import proofs.«01_k».proof.Proof.Attn.RunD
public import proofs.«01_k».proof.Proof.Attn.RunE
public import proofs.«01_k».proof.Proof.Attn.RunF
public import proofs.«01_k».proof.Proof.Attn.RunG

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem stepsA (t : Fin cfg0.N) (h : t.val = 0) (v : Vals F) : Steps t.val v v.stepA := by
  constructor <;> intros <;> first | omega | simp only [Vals.stepA, and_self]

theorem stepsB (t : Fin cfg0.N) (h : t.val = 1) (v : Vals F) : Steps t.val v v.stepB := by
  constructor <;> intros <;> first | omega | simp only [Vals.stepB, and_self]

theorem stepsC (t : Fin cfg0.N) (h : t.val = 2) (v : Vals F) : Steps t.val v v.stepC := by
  constructor <;> intros <;> first | omega | simp only [Vals.stepC, and_self]

theorem stepsD (t : Fin cfg0.N) (h : 3 ≤ t.val ∧ t.val ≤ 41) (v : Vals F) : Steps t.val v v.stepD := by
  constructor <;> intros <;> first | omega | simp only [Vals.stepD, and_self]

theorem stepsE (t : Fin cfg0.N) (h : t.val = 42) (v : Vals F) : Steps t.val v v.stepE := by
  constructor <;> intros <;> first | omega | simp only [Vals.stepE, and_self]

theorem stepsF (t : Fin cfg0.N) (h : t.val = 43) (v : Vals F) : Steps t.val v v.stepF := by
  constructor <;> intros <;> first | omega | simp only [Vals.stepF, and_self]

theorem stepsG (t : Fin cfg0.N) (h : t.val = 44) (v : Vals F) : Steps t.val v v.stepG := by
  constructor <;> intros <;> first | omega | simp only [Vals.stepG, and_self]

/-- A run of the kind in force at point `t` gives the obligation there. -/
theorem body_of_steps (c : Dev nD) (t : Fin cfg0.N) (step : Vals F → Vals F)
    (hrun : ∀ (v : Vals F) (E : Set ℕ) (K : PUnit → sProp 𝕄), iprop((memsAt t).held c v ∗ ((memsAt t).held c (step v) -∗ K ⟨⟩))
      ⊢ wp frame (wpE (defs₀ (F := F)) Variants.none c none) E (bodyOn (memsAt t) (grid0.coords t)) K)
    (hst : ∀ v, Steps t.val v (step v)) :
    bodyPre m c t ⊢ wp frame (wpE (defs₀ (F := F)) Variants.none c none) Set.univ (bodyAt0 t) fun _ => bodyPost m c t :=
  body_of m c t step hrun (fun v hi => (hst v).ins hi) (fun v hi hv => (hst v).inv hi hv) (fun v hi hv => (hst v).outs hi hv)

/-- The body's triple at every point. -/
theorem sound_body (c : Dev nD) (t : Fin cfg0.N) :
    bodyPre m c t ⊢ wp frame (wpE (defs₀ (F := F)) Variants.none c none) Set.univ (bodyAt0 t) fun _ => bodyPost m c t := by
  have hN : t.val < 45 := lt_of_lt_of_eq t.isLt N_0
  have k0 := hcond0_0 t; have k1 := hcond0_1 t; have k2 := hcond0_2 t; have k3 := hcond0_3 t
  have k4 := hcond0_4 t; have k5 := hcond0_5 t; have k6 := hcond0_6 t; have k7 := hcond0_7 t
  rw [Nat.mod_eq_of_lt hN] at k0 k1 k2 k3 k4 k5 k6 k7
  by_cases hA : t.val = 0
  · exact body_of_steps m c t Vals.stepA (fun v E K => runA (memsAt t) c (grid0.coords t) (k0.mpr (by omega)) (k1.mpr (by omega)) (fun h => absurd (k2.mp h) (by omega)) (fun h => absurd (k3.mp h) (by omega)) (fun h => absurd (k4.mp h) (by omega)) (fun h => absurd (k5.mp h) (by omega)) (fun h => absurd (k6.mp h) (by omega)) (fun h => absurd (k7.mp h) (by omega)) v E K) (stepsA t hA)
  by_cases hB : t.val = 1
  · exact body_of_steps m c t Vals.stepB (fun v E K => runB (memsAt t) c (grid0.coords t) (fun h => absurd (k0.mp h) (by omega)) (fun h => absurd (k1.mp h) (by omega)) (fun h => absurd (k2.mp h) (by omega)) (k3.mpr (by omega)) (fun h => absurd (k4.mp h) (by omega)) (fun h => absurd (k5.mp h) (by omega)) (fun h => absurd (k6.mp h) (by omega)) (fun h => absurd (k7.mp h) (by omega)) v E K) (stepsB t hB)
  by_cases hC : t.val = 2
  · exact body_of_steps m c t Vals.stepC (fun v E K => runC (memsAt t) c (grid0.coords t) (fun h => absurd (k0.mp h) (by omega)) (fun h => absurd (k1.mp h) (by omega)) (fun h => absurd (k2.mp h) (by omega)) (fun h => absurd (k3.mp h) (by omega)) (fun h => absurd (k4.mp h) (by omega)) (k5.mpr (by omega)) (fun h => absurd (k6.mp h) (by omega)) (fun h => absurd (k7.mp h) (by omega)) v E K) (stepsC t hC)
  by_cases hD : 3 ≤ t.val ∧ t.val ≤ 41
  · exact body_of_steps m c t Vals.stepD (fun v E K => runD (memsAt t) c (grid0.coords t) (fun h => absurd (k0.mp h) (by omega)) (fun h => absurd (k1.mp h) (by omega)) (fun h => absurd (k2.mp h) (by omega)) (fun h => absurd (k3.mp h) (by omega)) (fun h => absurd (k4.mp h) (by omega)) (fun h => absurd (k5.mp h) (by omega)) (fun h => absurd (k6.mp h) (by omega)) (k7.mpr (by omega)) v E K) (stepsD t hD)
  by_cases hE : t.val = 42
  · exact body_of_steps m c t Vals.stepE (fun v E K => runE (memsAt t) c (grid0.coords t) (fun h => absurd (k0.mp h) (by omega)) (fun h => absurd (k1.mp h) (by omega)) (k2.mpr (by omega)) (fun h => absurd (k3.mp h) (by omega)) (fun h => absurd (k4.mp h) (by omega)) (fun h => absurd (k5.mp h) (by omega)) (fun h => absurd (k6.mp h) (by omega)) (fun h => absurd (k7.mp h) (by omega)) v E K) (stepsE t hE)
  by_cases hF : t.val = 43
  · exact body_of_steps m c t Vals.stepF (fun v E K => runF (memsAt t) c (grid0.coords t) (fun h => absurd (k0.mp h) (by omega)) (fun h => absurd (k1.mp h) (by omega)) (fun h => absurd (k2.mp h) (by omega)) (fun h => absurd (k3.mp h) (by omega)) (k4.mpr (by omega)) (fun h => absurd (k5.mp h) (by omega)) (fun h => absurd (k6.mp h) (by omega)) (fun h => absurd (k7.mp h) (by omega)) v E K) (stepsF t hF)
  by_cases hG : t.val = 44
  · exact body_of_steps m c t Vals.stepG (fun v E K => runG (memsAt t) c (grid0.coords t) (fun h => absurd (k0.mp h) (by omega)) (fun h => absurd (k1.mp h) (by omega)) (fun h => absurd (k2.mp h) (by omega)) (fun h => absurd (k3.mp h) (by omega)) (fun h => absurd (k4.mp h) (by omega)) (fun h => absurd (k5.mp h) (by omega)) (k6.mpr (by omega)) (fun h => absurd (k7.mp h) (by omega)) v E K) (stepsG t hG)
  omega

end Cert.KernelIdeal.Gen

end
-- ==== Proof.Attn.Launch.lean ====
/- The run of the idealized kernel: it ends with its arguments as launched, and each result array's blocks are the ones that
   the invariant names. -/
module

public import proofs.«01_k».proof.Proof.Attn.Body
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body as the pipeline calls it. -/
theorem defs₀_row (t : Fin cfg0.N) : (defs₀ (F := F)) .tc cfg0.body (cfg0.bodyArgs t (cfg0.slots t)) = bodyAt0 t := by
  unfold defs₀; rw [Defs.onTc_tc]

/-- The pipeline's body obligation. -/
theorem body_obligation (c : Dev nD) :
    Pipeline.BodyObligationRel (dats (F := F) m 0 c) (defs₀ (F := F)) Variants.none () Set.univ marked (leavesRel m c) := fun t => by
  rw [bigSep_W0, bigSep_W0, defs₀_row]
  exact triple_restated (sound_body m c t) rfl .rfl fun _ => .rfl

/-- What the launch hands the region is the invariant before the first point, which says nothing. -/
theorem hin (c : Dev nD) : Pipeline.ΦA spec0 c ⊢ (dats m 0 c).Φ 0 := by
  rw [show (dats m 0 c).Φ 0 = Phi m c 0 from rfl, PhiA0_eq]
  unfold Phi
  iintro ⟨⟨⟨%s0, S0⟩, ⟨%s1, S1⟩, ⟨%s2, S2⟩, ⟨%s3, S3⟩, ⟨%s4, S4⟩, ⟨%s5, S5⟩, ⟨%s6, S6⟩⟩, Hg⟩
  isplitr [Hg]
  · iexists s0, s1, s2, s3, s4, s5, s6
    isplitr
    · ipureintro; exact ⟨fun h => absurd h (by omega), fun h => absurd h (by omega), fun h => absurd h (by omega), fun h => absurd h (by omega)⟩
    isplitl [S0]; · iexact S0
    isplitl [S1]; · iexact S1
    isplitl [S2]; · iexact S2
    isplitl [S3]; · iexact S3
    isplitl [S4]; · iexact S4
    isplitl [S5]; · iexact S5
    iexact S6
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨⟨%s0, %s1, %s2, %s3, %s4, %s5, %s6, %hinv, S0, S1, S2, S3, S4, S5, S6⟩, Hg⟩
  isplitr [Hg]
  · isplitl [S0]; · iexists s0; iexact S0
    isplitl [S1]; · iexists s1; iexact S1
    isplitl [S2]; · iexists s2; iexact S2
    isplitl [S3]; · iexists s3; iexact S3
    isplitl [S4]; · iexists s4; iexact S4
    isplitl [S5]; · iexists s5; iexact S5
    iexists s6; iexact S6
  iexact Hg

set_option backward.isDefEq.respectTransparency.types false in
/-- The launch: the pipeline's arrays at what the windows leave, everything else as found, every semaphore at zero. -/
theorem run_main : θ_run defs (onTc (τ := τ) (main (F := F))) (s₀ m ρ)
    (fun r => Pipeline.RDat.FramePost (cfgs 0) (fun c => (dats m 0 c).toRRel marked (leavesRel m c)) (V m) r ∧ r.2.sem = fun _ => 0) :=
  Pipeline.RDat.θ_run_frame_track cfgs (0 : Fin 1) launch0 defs₀ Variants.none (fun c => (dats m 0 c).toRRel marked (leavesRel m c)) m ρ main
    (fun c => (body_obligation m c).toRRel) (fun c => (dats m 0 c).share_full fun _ => rfl)
    (fun _ _ => rfl) (V m) (hmain m Variants.none) (A_eq m) (hin m) (hout m) _ (fun _ h => h)

/-- The frame: every run ends, with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => by
    refine ⟨fun c => ?_, h.2⟩
    have hi := Pipeline.RDat.FramePost.arr_in (cfg₁ := cfgs 0) h.1 c
    exact ⟨
      (hi 0 rfl).trans ((A_eq m c 0).trans (V_main_arg0 m c)),
      (hi 1 rfl).trans ((A_eq m c 1).trans (V_main_arg1 m c)),
      (hi 2 rfl).trans ((A_eq m c 2).trans (V_main_arg2 m c)),
      (hi 3 rfl).trans ((A_eq m c 3).trans (V_main_arg3 m c)),
      (hi 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩) (run_main m ρ)

end Cert.KernelIdeal.Gen

end
-- ==== Proof.Attn.RefRun.lean ====
/- The reference's results as its generated run states them. -/
module

public import proofs.«01_k».proof.Proof.Gen.ReferenceIdeal.Value

@[expose] public section

end
-- ==== Proof.Attn.Quant.lean ====
/- The quantiser's scale, one number at a time: the exponent of the ratio found bit by bit, and the same from the
   logarithm. Over the extended reals the two give one power of two, and the kernel's inverse is its inverse. -/
module

public import Idealize.ShloMosaic.Lib.Pointwise

@[expose] public section

noncomputable section

namespace Cert.Quant

open Idealize.ShloMosaic

/-- The float whose exponent field is `k`. -/
def pw (k : ℕ) : EReal := Ideal.ofBits .f32 (BitVec.ofNat 32 k * 8388608#32)

theorem fields : ∀ k : Fin 256, ((BitVec.ofNat 32 k.val * 8388608#32).extractLsb' 23 8).toNat = k.val
    ∧ ((BitVec.ofNat 32 k.val * 8388608#32).extractLsb' 0 23).toNat = 0
    ∧ ((BitVec.ofNat 32 k.val * 8388608#32).extractLsb' 31 1 == 1#1) = false := by decide +kernel

theorem pw_top : pw 255 = ⊤ := by
  obtain ⟨h1, h2, h3⟩ := fields 255
  simp only [pw, Ideal.ofBits, Ideal.ieee]
  simp at h1 h2 h3 ⊢

theorem pw_zero : pw 0 = 0 := by
  simp [pw, Ideal.ofBits, Ideal.ieee]

theorem pw_coe (k : ℕ) (h0 : 1 ≤ k) (h1 : k ≤ 254) : pw k = (((2 : ℝ) ^ ((k : ℤ) - 127) : ℝ) : EReal) := by
  obtain ⟨e1, e2, e3⟩ := fields ⟨k, by omega⟩
  simp only at e1 e2 e3
  simp only [pw, Ideal.ofBits, Ideal.ieee, e1, e2]
  rw [show (23 + 8 : ℕ) = 31 from rfl] at *
  simp only [Nat.add_comm 8 23, e3]
  rw [if_neg (by norm_num; omega), if_neg (by omega)]
  congr 1
  have : ((k : ℤ) - (2 ^ (8 - 1) - 1) - (23 : ℕ)) = ((k : ℤ) - 127) - 23 := by norm_num
  rw [this, zpow_sub₀ (by norm_num : (2 : ℝ) ≠ 0)]
  norm_num
  field_simp

/-- One step of the search. -/
def step (r : EReal) (b e : BitVec 32) : BitVec 32 :=
  if Ideal.cmp .oge r (Ideal.ofBits .f32 ((e + b) * 8388608#32)) = 1#1 then e + b else e

/-- The search. -/
def search (r : EReal) : BitVec 32 :=
  step r 1#32 (step r 2#32 (step r 4#32 (step r 8#32 (step r 16#32 (step r 32#32 (step r 64#32 (step r 128#32 0#32)))))))

/-- Before the bit `b` is tried: a multiple of `2 b` whose power is at most `r`, and no power `2 b` further is. -/
structure At (r : EReal) (b : ℕ) (e : BitVec 32) : Prop where
  ex : ∃ n : ℕ, e = BitVec.ofNat 32 n ∧ n + 2 * b ≤ 256 ∧ pw n ≤ r ∧ ∀ k, n + 2 * b ≤ k → k < 256 → r < pw k

theorem pw_mono {i j : ℕ} (h : i ≤ j) (hj : j < 256) : pw i ≤ pw j := by
  rcases Nat.eq_zero_or_pos i with rfl | hi
  · rw [pw_zero]
    rcases Nat.eq_zero_or_pos j with rfl | hj0
    · rw [pw_zero]
    rcases Nat.lt_or_ge j 255 with h1 | h1
    · rw [pw_coe j hj0 (by omega)]; exact_mod_cast (by positivity)
    · rw [show j = 255 by omega, pw_top]; exact le_top
  rcases Nat.lt_or_ge j 255 with h1 | h1
  · rw [pw_coe i hi (by omega), pw_coe j (by omega) (by omega)]
    exact EReal.coe_le_coe_iff.mpr (zpow_le_zpow_right₀ (by norm_num) (by omega))
  · rw [show j = 255 by omega, pw_top]; exact le_top

theorem At.step {r : EReal} {b : ℕ} {e : BitVec 32} (hb : 1 ≤ b) (h : At r b e) :
    (∃ n : ℕ, step r (BitVec.ofNat 32 b) e = BitVec.ofNat 32 n ∧ n + b ≤ 256 ∧ pw n ≤ r ∧ ∀ k, n + b ≤ k → k < 256 → r < pw k) := by
  obtain ⟨n, rfl, hn, hp, hk⟩ := h.ex
  have hadd : BitVec.ofNat 32 n + BitVec.ofNat 32 b = BitVec.ofNat 32 (n + b) := (BitVec.ofNat_add n b).symm
  unfold Quant.step
  rw [hadd]
  by_cases hc : pw (n + b) ≤ r
  · refine ⟨n + b, if_pos ?_, by omega, hc, fun k h1 h2 => hk k (by omega) h2⟩
    show BitVec.ofBool (decide (pw (n + b) ≤ r)) = 1#1
    rw [decide_eq_true hc]; rfl
  · refine ⟨n, if_neg ?_, by omega, hp, fun k h1 h2 => ?_⟩
    · show ¬ BitVec.ofBool (decide (pw (n + b) ≤ r)) = 1#1
      rw [decide_eq_false hc]; decide
    · exact lt_of_lt_of_le (not_le.mp hc) (pw_mono h1 h2)

theorem At.next {r : EReal} {b c : ℕ} {e : BitVec 32} (hc : c = 2 * b) (hb : 1 ≤ b) (h : At r c e) :
    At r b (Quant.step r (BitVec.ofNat 32 c) e) := by
  subst hc
  obtain ⟨n, h1, h2, h3, h4⟩ := h.step (by omega)
  exact ⟨n, h1, by omega, h3, h4⟩

theorem search_spec (r : EReal) (hr : 0 ≤ r) :
    ∃ n : ℕ, search r = BitVec.ofNat 32 n ∧ n < 256 ∧ pw n ≤ r ∧ ∀ k, n + 1 ≤ k → k < 256 → r < pw k := by
  have h0 : At r 128 0#32 := ⟨0, rfl, by omega, by rw [pw_zero]; exact hr, fun k h1 h2 => by omega⟩
  have h1 := h0.next (b := 64) rfl (by omega)
  have h2 := h1.next (b := 32) rfl (by omega)
  have h3 := h2.next (b := 16) rfl (by omega)
  have h4 := h3.next (b := 8) rfl (by omega)
  have h5 := h4.next (b := 4) rfl (by omega)
  have h6 := h5.next (b := 2) rfl (by omega)
  have h7 := h6.next (b := 1) rfl (by omega)
  obtain ⟨n, e1, e2, e3, e4⟩ := h7.step (by omega)
  exact ⟨n, e1, by omega, e3, e4⟩

/-- The exponent field the kernel works with, -/
def field (r : EReal) : BitVec 32 :=
  if Ideal.cmp .oeq r (Ideal.ofBits .f32 0x7F800000#32) = 1#1 then 2139095040#32
  else IntOp.minsi (search r) 252#32 * 8388608#32
/-- the bits of the scale, -/
def bits (t : BitVec 32) : BitVec 32 :=
  if (IntOp.ori (IntOp.cmpi .eq t 0#32) (IntOp.cmpi .eq t 2139095040#32)) = 1#1 then 1065353216#32 else t + 8388608#32
/-- the scale -/
def scaleK (r : EReal) : EReal := Ideal.ofBits .f32 (bits (field r))
/-- and its inverse. -/
def invK (r : EReal) : EReal := Ideal.ofBits .f32 (2130706432#32 - bits (field r))

/-- The reference's scale. -/
def scaleR (r : EReal) : EReal :=
  if r < Ideal.ofBits .f32 0x00800000#32 ∨ r = Ideal.ofBits .f32 0x7F800000#32 then Ideal.ofBits .f32 0x3F800000#32
  else Ideal.pow (Ideal.ofBits .f32 0x40000000#32)
    (min (Ideal.liftRound Int.floor (Ideal.div (Ideal.log r) (Ideal.log (Ideal.ofBits .f32 0x40000000#32))) + Ideal.ofBits .f32 0x3F800000#32)
      (Ideal.ofBits .f32 0x42FC0000#32))

theorem bits_field : ∀ n : Fin 256, 1 ≤ n.val → bits (IntOp.minsi (BitVec.ofNat 32 n.val) 252#32 * 8388608#32)
    = BitVec.ofNat 32 (min n.val 252 + 1) * 8388608#32 := by decide +kernel

theorem bits_inv : ∀ n : Fin 255, 2130706432#32 - BitVec.ofNat 32 n.val * 8388608#32 = BitVec.ofNat 32 (254 - n.val) * 8388608#32 := by
  decide +kernel

theorem of_bits (r : EReal) (k : ℕ) (h0 : 1 ≤ k) (h1 : k ≤ 253) (h : bits (field r) = BitVec.ofNat 32 k * 8388608#32) :
    scaleK r = (((2 : ℝ) ^ ((k : ℤ) - 127) : ℝ) : EReal) ∧ invK r = (((2 : ℝ) ^ (-((k : ℤ) - 127)) : ℝ) : EReal) := by
  unfold scaleK invK
  rw [h, bits_inv ⟨k, by omega⟩]
  refine ⟨pw_coe k h0 (by omega), (pw_coe (254 - k) (by omega) (by omega)).trans ?_⟩
  congr 2
  have : ((254 - k : ℕ) : ℤ) = 254 - (k : ℤ) := by omega
  rw [this]; ring

theorem one_eq : Ideal.ofBits .f32 0x3F800000#32 = ((1 : ℝ) : EReal) := by
  have := pw_coe 127 (by omega) (by omega)
  norm_num [pw] at this ⊢
  try exact this

theorem two_eq : Ideal.ofBits .f32 0x40000000#32 = ((2 : ℝ) : EReal) := by
  have := pw_coe 128 (by omega) (by omega)
  norm_num [pw] at this ⊢
  try exact this

theorem cap_eq : Ideal.ofBits .f32 0x42FC0000#32 = ((126 : ℝ) : EReal) := by
  simp [Ideal.ofBits, Ideal.ieee]; norm_num; rw [← EReal.coe_mul]; norm_num

theorem tiny_eq : Ideal.ofBits .f32 0x00800000#32 = pw 1 := rfl

theorem inf_eq : Ideal.ofBits .f32 0x7F800000#32 = ⊤ := pw_top

/-- Between neighbouring powers of two the logarithm's floor is the exponent. -/
theorem floor_log (x : ℝ) (n : ℤ) (h1 : (2 : ℝ) ^ n ≤ x) (h2 : x < (2 : ℝ) ^ (n + 1)) : ⌊Real.log x / Real.log 2⌋ = n := by
  have hx : 0 < x := lt_of_lt_of_le (by positivity) h1
  have hl : 0 < Real.log 2 := Real.log_pos (by norm_num)
  rw [Int.floor_eq_iff]
  refine ⟨?_, ?_⟩
  · rw [le_div_iff₀ hl, ← Real.log_zpow]
    exact Real.log_le_log (by positivity) h1
  · rw [div_lt_iff₀ hl]
    have := Real.log_lt_log hx h2
    rw [Real.log_zpow] at this
    push_cast at this
    exact this

theorem floor_log_ge (x : ℝ) (n : ℤ) (h1 : (2 : ℝ) ^ n ≤ x) : n ≤ ⌊Real.log x / Real.log 2⌋ := by
  have hl : 0 < Real.log 2 := Real.log_pos (by norm_num)
  rw [Int.le_floor, le_div_iff₀ hl, ← Real.log_zpow]
  exact Real.log_le_log (by positivity) h1

/-- The kernel's scale and inverse are a power of two and its inverse, and the reference's scale is that power. -/
theorem scales (r : EReal) (hr : 0 ≤ r) : ∃ k : ℤ, scaleK r = (((2 : ℝ) ^ k : ℝ) : EReal)
    ∧ invK r = (((2 : ℝ) ^ (-k) : ℝ) : EReal) ∧ scaleR r = (((2 : ℝ) ^ k : ℝ) : EReal) := by
  by_cases ht : r = ⊤
  · have hb : bits (field r) = BitVec.ofNat 32 127 * 8388608#32 := by
      have : field r = 2139095040#32 := if_pos (by
        rw [inf_eq, ht]; show BitVec.ofBool (decide ((⊤ : EReal) = ⊤)) = 1#1; simp)
      rw [this]; decide
    obtain ⟨h1, h2⟩ := of_bits r 127 (by omega) (by omega) hb
    refine ⟨_, h1, h2, ?_⟩
    unfold scaleR
    rw [if_pos (Or.inr (by rw [inf_eq, ht])), one_eq]
    norm_num
  obtain ⟨x, rfl⟩ : ∃ x : ℝ, r = (x : EReal) := by
    induction r using EReal.rec with
    | bot => simp at hr
    | top => exact absurd rfl ht
    | coe x => exact ⟨x, rfl⟩
  obtain ⟨n, e1, e2, e3, e4⟩ := search_spec _ hr
  have hf : field (x : EReal) = IntOp.minsi (BitVec.ofNat 32 n) 252#32 * 8388608#32 := by
    unfold field
    rw [e1, if_neg (by rw [inf_eq]; show ¬ BitVec.ofBool (decide ((x : EReal) = ⊤)) = 1#1; simp)]
  have hn : n ≤ 254 := by
    by_contra hc
    have : n = 255 := by omega
    rw [this, pw_top] at e3
    exact EReal.coe_ne_top _ (top_le_iff.mp e3)
  rcases Nat.eq_zero_or_pos n with h0 | h0
  · subst h0
    have hb : bits (field (x : EReal)) = BitVec.ofNat 32 127 * 8388608#32 := by rw [hf]; decide
    obtain ⟨h1, h2⟩ := of_bits _ 127 (by omega) (by omega) hb
    refine ⟨_, h1, h2, ?_⟩
    unfold scaleR
    rw [if_pos (Or.inl (by rw [tiny_eq]; exact e4 1 (by omega) (by omega))), one_eq]
    norm_num
  · have hb := bits_field ⟨n, by omega⟩ h0
    rw [← hf] at hb
    obtain ⟨h1, h2⟩ := of_bits _ (min n 252 + 1) (by omega) (by omega) hb
    refine ⟨_, h1, h2, ?_⟩
    unfold scaleR
    have hge : pw 1 ≤ (x : EReal) := (pw_mono h0 (by omega)).trans e3
    rw [tiny_eq, inf_eq, if_neg (by rintro (h | h); exact absurd hge (not_le.mpr h); exact ht h), two_eq, one_eq, cap_eq]
    rw [pw_coe n h0 hn] at e3
    have e3' : (2 : ℝ) ^ ((n : ℤ) - 127) ≤ x := by exact_mod_cast e3
    have hx : 0 < x := lt_of_lt_of_le (by positivity) e3'
    have hl : 0 < Real.log 2 := Real.log_pos (by norm_num)
    have hlog : Ideal.div (Ideal.log (x : EReal)) (Ideal.log ((2 : ℝ) : EReal)) = ((Real.log x / Real.log 2 : ℝ) : EReal) := by
      have a1 : Ideal.log (x : EReal) = ((Real.log x : ℝ) : EReal) := by
        show (if x ≤ 0 then (⊥ : EReal) else (Real.log x : EReal)) = _
        rw [if_neg (not_le.mpr hx)]
      have a2 : Ideal.log ((2 : ℝ) : EReal) = ((Real.log 2 : ℝ) : EReal) := by
        show (if (2 : ℝ) ≤ 0 then (⊥ : EReal) else (Real.log 2 : EReal)) = _
        rw [if_neg (by norm_num)]
      rw [a1, a2]
      unfold Ideal.div
      rw [if_neg (by exact_mod_cast hl.ne'), ← EReal.coe_inv, ← EReal.coe_mul, div_eq_mul_inv]
    rw [hlog]
    show Ideal.pow ((2 : ℝ) : EReal) (min ((((⌊Real.log x / Real.log 2⌋ : ℤ) : ℝ) : EReal) + ((1 : ℝ) : EReal)) ((126 : ℝ) : EReal)) = _
    have hm : min (⌊Real.log x / Real.log 2⌋ + 1) 126 = ((min n 252 + 1 : ℕ) : ℤ) - 127 := by
      rcases Nat.lt_or_ge n 252 with h3 | h3
      · have e5 := e4 (n + 1) le_rfl (by omega)
        rw [pw_coe (n + 1) (by omega) (by omega)] at e5
        have e5' : x < (2 : ℝ) ^ (((n : ℤ) - 127) + 1) := by
          have : ((n + 1 : ℕ) : ℤ) - 127 = ((n : ℤ) - 127) + 1 := by push_cast; ring
          rw [this] at e5
          exact_mod_cast e5
        rw [floor_log x _ e3' e5']
        omega
      · have := floor_log_ge x _ e3'
        omega
    rw [← hm, ← EReal.coe_add]
    have : min ((((⌊Real.log x / Real.log 2⌋ : ℤ) : ℝ) + 1 : ℝ) : EReal) ((126 : ℝ) : EReal)
        = (((min (⌊Real.log x / Real.log 2⌋ + 1) 126 : ℤ) : ℝ) : EReal) := by
      rw [← EReal.coe_strictMono.monotone.map_min]
      push_cast
      rfl
    rw [this]
    show ((Real.rpow 2 _ : ℝ) : EReal) = _
    congr 1
    exact Real.rpow_intCast 2 _

/-- Multiplying by the kernel's inverse is dividing by the reference's scale. -/
theorem mul_inv_eq (r o : EReal) (hr : 0 ≤ r) : o * invK r = Ideal.div o (scaleR r) := by
  obtain ⟨k, -, h2, h3⟩ := scales r hr
  rw [h2, h3]
  unfold Ideal.div
  rw [if_neg (by exact_mod_cast (by positivity : (2 : ℝ) ^ k ≠ 0)), ← EReal.coe_inv, zpow_neg]

theorem scale_eq (r : EReal) (hr : 0 ≤ r) : scaleK r = scaleR r := by
  obtain ⟨k, h1, -, h3⟩ := scales r hr
  rw [h1, h3]

end Cert.Quant

end
-- ==== Proof.Attn.ScaleBits.lean ====
/- The kernel's scales element by element: the vector computation is the scalar one at every element. -/
module

public import proofs.«01_k».proof.Proof.Attn.Stage
public import proofs.«01_k».proof.Proof.Attn.Quant

@[expose] public section

noncomputable section

namespace Cert.KernelIdeal.Gen

open Idealize.ShloMosaic Idealize.ShloMosaic.TcCoe

theorem step_shape (r : FVec Ideal S16x128 .f32) (w u e : IVec S16x128 32) (j : S16x128.Idx) :
    select (cmpf .oge r (bitcastToFloat (F := Ideal) .f32 w)) u e j
      = if Ideal.cmp .oge (r j) (Ideal.ofBits .f32 (w j)) = 1#1 then u j else e j := rfl

theorem muladd_at (e : IVec S16x128 32) (b k : BitVec 32) (j : S16x128.Idx) :
    muli (addi e (broadcast S16x128 b)) (broadcast S16x128 k) j = (e j + b) * k := rfl

theorem add_at (e : IVec S16x128 32) (b : BitVec 32) (j : S16x128.Idx) : addi e (broadcast S16x128 b) j = e j + b := rfl

theorem expStep_at (r : FVec Ideal S16x128 .f32) (b : BitVec 32) (e : IVec S16x128 32) (j : S16x128.Idx) :
    expStep (F := Ideal) r b e j = Quant.step (r j) b (e j) := by
  unfold expStep Quant.step
  rw [step_shape, muladd_at, add_at]

theorem expSearch_at (r : FVec Ideal S16x128 .f32) (j : S16x128.Idx) : expSearch (F := Ideal) r j = Quant.search (r j) := by
  unfold expSearch Quant.search
  rw [expStep_at, expStep_at, expStep_at, expStep_at, expStep_at, expStep_at, expStep_at, expStep_at]
  rfl

theorem expField_at (r : FVec Ideal S16x128 .f32) (j : S16x128.Idx) : expField (F := Ideal) r j = Quant.field (r j) := by
  unfold Quant.field expField
  rw [← expSearch_at]
  generalize expSearch (F := Ideal) r = e
  rfl

theorem scaleBits_at (t : IVec S16x128 32) (j : S16x128.Idx) : scaleBits t j = Quant.bits (t j) := rfl

theorem scale_at (o : FVec Ideal S512x128 .f32) (j : S16x128.Idx) : scale (F := Ideal) o j = Quant.scaleK (ratio (F := Ideal) o j) := by
  unfold Quant.scaleK scale
  generalize ratio (F := Ideal) o = r
  rw [← expField_at, ← scaleBits_at]
  generalize scaleBits (expField (F := Ideal) r) = t
  rfl

theorem scaleInv_at (o : FVec Ideal S512x128 .f32) (j : S16x128.Idx) : scaleInv (F := Ideal) o j = Quant.invK (ratio (F := Ideal) o j) := by
  unfold Quant.invK scaleInv
  generalize ratio (F := Ideal) o = r
  rw [← expField_at, ← scaleBits_at]
  generalize scaleBits (expField (F := Ideal) r) = t
  rfl

end Cert.KernelIdeal.Gen

end
-- ==== Proof.Attn.Reads.lean ====
/- The attention of one block, read element by element over the extended reals: the scores, their maximum, the
   exponentials, the reciprocal of their sum, and the weighted sum of the values. -/
module

public import proofs.«01_k».proof.Proof.Attn.Cover
public import Idealize.ShloMosaic.Lib.Pointwise

@[expose] public section

set_option maxRecDepth 16384

noncomputable section

namespace Cert.KernelIdeal.Gen

open Idealize.ShloMosaic Idealize.ShloMosaic.TcCoe

/-! ## Sums and maxima over 3072 rows, cut in tiles of 256 and then by the residue modulo 8 -/

/-- A sum over all rows, from the tiles' sums. -/
theorem sum_tiles (G : ℕ → EReal) : ∑ j : Fin 3072, G j.val =
    ((∑ x : Fin 256, G (0 + x.val)) + (∑ x : Fin 256, G (256 + x.val))
      + (∑ x : Fin 256, G (512 + x.val)) + (∑ x : Fin 256, G (768 + x.val))
      + (∑ x : Fin 256, G (1024 + x.val)) + (∑ x : Fin 256, G (1280 + x.val))
      + (∑ x : Fin 256, G (1536 + x.val)) + (∑ x : Fin 256, G (1792 + x.val))
      + (∑ x : Fin 256, G (2048 + x.val)) + (∑ x : Fin 256, G (2304 + x.val))
      + (∑ x : Fin 256, G (2560 + x.val)) + (∑ x : Fin 256, G (2816 + x.val))) := by
  rw [Fin.sum_univ_tiles 12 256 rfl]
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_castSucc, Fin.sum_univ_castSucc, Fin.sum_univ_zero, zero_add]
  rfl

/-- A sum over all rows, from the tiles' sums over the rows of one residue. -/
theorem sum_rows (G : ℕ → EReal) : ∑ j : Fin 3072, G j.val = ∑ a : Fin 8,
    (0 + (∑ x : Fin 32, G (0 + (x.val * 8 + a.val))) + (∑ x : Fin 32, G (256 + (x.val * 8 + a.val)))
      + (∑ x : Fin 32, G (512 + (x.val * 8 + a.val))) + (∑ x : Fin 32, G (768 + (x.val * 8 + a.val)))
      + (∑ x : Fin 32, G (1024 + (x.val * 8 + a.val))) + (∑ x : Fin 32, G (1280 + (x.val * 8 + a.val)))
      + (∑ x : Fin 32, G (1536 + (x.val * 8 + a.val))) + (∑ x : Fin 32, G (1792 + (x.val * 8 + a.val)))
      + (∑ x : Fin 32, G (2048 + (x.val * 8 + a.val))) + (∑ x : Fin 32, G (2304 + (x.val * 8 + a.val)))
      + (∑ x : Fin 32, G (2560 + (x.val * 8 + a.val))) + (∑ x : Fin 32, G (2816 + (x.val * 8 + a.val)))) := by
  have key : ∀ o, ∑ x : Fin 256, G (o + x.val) = ∑ a : Fin 8, ∑ x : Fin 32, G (o + (x.val * 8 + a.val)) := by
    intro o
    rw [Fin.sum_univ_tiles 32 8 rfl, Finset.sum_comm]
  rw [sum_tiles]
  simp only [key, Finset.sum_add_distrib, Finset.sum_const_zero, @zero_add EReal _]

/-- The maximum over the rows of a tile of one residue, -/
def rowsMax (G : ℕ → EReal) (o a : ℕ) : EReal := Finset.univ.sup fun x : Fin 32 => G (o + (x.val * 8 + a))

/-- and over all rows. -/
theorem max_rows (G : ℕ → EReal) : (Finset.univ.sup fun j : Fin 3072 => G j.val) = Finset.univ.sup fun a : Fin 8 =>
    max (max (max (max (max (max (max (max (max (max (max (rowsMax G 0 a.val) (rowsMax G 256 a.val)) (rowsMax G 512 a.val))
      (rowsMax G 768 a.val)) (rowsMax G 1024 a.val)) (rowsMax G 1280 a.val)) (rowsMax G 1536 a.val)) (rowsMax G 1792 a.val))
      (rowsMax G 2048 a.val)) (rowsMax G 2304 a.val)) (rowsMax G 2560 a.val)) (rowsMax G 2816 a.val) := by
  refine eq_of_forall_ge_iff fun y => ?_
  simp only [rowsMax, Finset.sup_le_iff, max_le_iff, Finset.mem_univ, true_imp_iff]
  constructor
  · intro h a
    have h' : ∀ n, n < 3072 → G n ≤ y := fun n hn => h ⟨n, hn⟩
    refine ⟨⟨⟨⟨⟨⟨⟨⟨⟨⟨⟨?_, ?_⟩, ?_⟩, ?_⟩, ?_⟩, ?_⟩, ?_⟩, ?_⟩, ?_⟩, ?_⟩, ?_⟩, ?_⟩ <;>
      exact fun x => h' _ (by have := x.isLt; have := a.isLt; omega)
  · intro h j
    obtain ⟨⟨⟨⟨⟨⟨⟨⟨⟨⟨⟨h0, h1⟩, h2⟩, h3⟩, h4⟩, h5⟩, h6⟩, h7⟩, h8⟩, h9⟩, h10⟩, h11⟩ := h ⟨j.val % 8, by omega⟩
    have hj := j.isLt
    have key : ∀ o, (∀ x : Fin 32, G (o + (x.val * 8 + j.val % 8)) ≤ y) → o ≤ j.val → j.val < o + 256 → o % 8 = 0 → G j.val ≤ y := by
      intro o h a1 a2 a3
      have := h ⟨(j.val - o) / 8, by omega⟩
      rwa [show o + ((j.val - o) / 8 * 8 + j.val % 8) = j.val by omega] at this
    rcases Nat.lt_or_ge j.val 256 with c | c
    · exact key 0 h0 (by omega) (by omega) rfl
    rcases Nat.lt_or_ge j.val 512 with c | c
    · exact key 256 h1 (by omega) (by omega) rfl
    rcases Nat.lt_or_ge j.val 768 with c | c
    · exact key 512 h2 (by omega) (by omega) rfl
    rcases Nat.lt_or_ge j.val 1024 with c | c
    · exact key 768 h3 (by omega) (by omega) rfl
    rcases Nat.lt_or_ge j.val 1280 with c | c
    · exact key 1024 h4 (by omega) (by omega) rfl
    rcases Nat.lt_or_ge j.val 1536 with c | c
    · exact key 1280 h5 (by omega) (by omega) rfl
    rcases Nat.lt_or_ge j.val 1792 with c | c
    · exact key 1536 h6 (by omega) (by omega) rfl
    rcases Nat.lt_or_ge j.val 2048 with c | c
    · exact key 1792 h7 (by omega) (by omega) rfl
    rcases Nat.lt_or_ge j.val 2304 with c | c
    · exact key 2048 h8 (by omega) (by omega) rfl
    rcases Nat.lt_or_ge j.val 2560 with c | c
    · exact key 2304 h9 (by omega) (by omega) rfl
    rcases Nat.lt_or_ge j.val 2816 with c | c
    · exact key 2560 h10 (by omega) (by omega) rfl
    · exact key 2816 h11 (by omega) (by omega) rfl

theorem ninf_eq : Ideal.ofBits .f32 0xFF800000#32 = ⊥ := by simp [Ideal.ofBits, Ideal.ieee]

/-- A fold of the maximum from minus infinity is the supremum. -/
theorem fold_max_eq {n : ℕ} (f : Fin n → EReal) : Finset.fold max (Ideal.ofBits .f32 0xFF800000#32) f Finset.univ = Finset.univ.sup f := by
  rw [ninf_eq]; rfl

/-! ## QK -/

/-- One score: key `j` with query `i`. -/
def sc (q : Vec Ideal S1x512x512 .bf16) (k : Vec Ideal S1x3072x512 .bf16) (j : Fin 3072) (i : Fin 512) : EReal :=
  ∑ d : Fin 512, k (ix3 0 j d) * q (ix3 0 d i)

/-- Row number `n`. -/
def row (n : ℕ) : Fin 3072 := Fin.ofNat 3072 n

theorem row_val (j : Fin 3072) : row j.val = j := Fin.ext (Nat.mod_eq_of_lt j.isLt)

theorem row_eq (n : ℕ) (h : n < 3072) : row n = ⟨n, h⟩ := Fin.ext (Nat.mod_eq_of_lt h)

theorem qkDot_at (q : Vec Ideal S1x512x512 .bf16) (k : Vec Ideal S1x256x512 .bf16) (r : Fin 256) (i : Fin 512) :
    qkDot q k (ix2 r i) = ∑ d : Fin 512, k (ix3 0 r d) * q (ix3 0 d i) := by
  pointwise [qkDot]

theorem qkDot_tile (q : Vec Ideal S1x512x512 .bf16) (k : Vec Ideal S1x3072x512 .bf16) (o : ℕ) (ho : o ≤ 2816) (h0 h) (r : Fin 256) (i : Fin 512) :
    qkDot (View.ld q (Rect.unit (s := S1x512x512) ![0, 0, 0] S1x512x512.size h0))
      (View.ld k (Rect.unit (s := S1x3072x512) ![0, o, 0] S1x256x512.size h)) (ix2 r i) = sc q k (row (o + r.val)) i := by
  rw [qkDot_at]
  have hr := r.isLt
  refine Finset.sum_congr rfl fun d _ => congrArg₂ (· * ·) ?_ ?_
  · refine congrArg k (funext fun a => Fin.ext ?_)
    rw [row_eq _ (by omega)]
    match a with
    | ⟨0, _⟩ => rfl
    | ⟨1, _⟩ => show o + 1 * r.val = o + r.val; omega
    | ⟨2, _⟩ => show 0 + 1 * d.val = d.val; omega
  · refine congrArg q (funext fun a => Fin.ext ?_)
    match a with
    | ⟨0, _⟩ => rfl
    | ⟨1, _⟩ => show 0 + 1 * d.val = d.val; omega
    | ⟨2, _⟩ => show 0 + 1 * i.val = i.val; omega

theorem inb_tile (o : ℕ) (ho : o ≤ 2816) : ∀ a : Fin S3072x512.rank, (![o, 0] : Fin 2 → ℕ) a + S256x512.size a ≤ S3072x512.size a := by
  intro a
  match a with
  | ⟨0, _⟩ => show o + 256 ≤ 3072; omega
  | ⟨1, _⟩ => show 0 + 512 ≤ 512; omega

theorem qkTile_piece (q : Vec Ideal S1x512x512 .bf16) (k : Vec Ideal S1x3072x512 .bf16) (o : ℕ) (ho : o ≤ 2816) (h0 h)
    (x : (Rect.unit (s := S3072x512) ![o, 0] S256x512.size (inb_tile o ho)).shape.Idx) :
    qkTile (View.ld q (Rect.unit (s := S1x512x512) ![0, 0, 0] S1x512x512.size h0))
      (View.ld k (Rect.unit (s := S1x3072x512) ![0, o, 0] S1x256x512.size h)) x
      = (fun y : S3072x512.Idx => sc q k (y 0) (y 1)) ((Rect.unit (s := S3072x512) ![o, 0] S256x512.size (inb_tile o ho)).emb x) := by
  have hx : x = ix2 (n0 := 256) (n1 := 512) (x 0) (x 1) := (ix2_eta (n0 := 256) (n1 := 512) x).symm
  have h0 : (x 0).val < 256 := (x 0).isLt
  refine (congrFun (shapeCast_self _ _) x).trans ?_
  rw [hx]
  refine (qkDot_tile q k o ho _ _ _ _).trans ?_
  refine congrArg₂ (sc q k) (Fin.ext ?_) (Fin.ext ?_)
  · rw [row_eq _ (by omega)]; show o + (x 0).val = o + 1 * (x 0).val; omega
  · show (x 1).val = 0 + 1 * (x 1).val; omega

theorem scoresOf_at (q : Vec Ideal S1x512x512 .bf16) (k : Vec Ideal S1x3072x512 .bf16) (j : Fin 3072) (i : Fin 512) :
    scoresOf q k (ix2 j i) = sc q k j i := by
  refine (View.canon_apply_of_pieces (fun y : S3072x512.Idx => sc q k (y 0) (y 1)) (scorePieces q k) ?_ _ (scorePieces_cover q k _)).trans rfl
  intro p hp x
  simp only [scorePieces, List.mem_cons, List.not_mem_nil, or_false] at hp
  rcases hp with rfl | rfl | rfl | rfl | rfl | rfl | rfl | rfl | rfl | rfl | rfl | rfl <;>
    exact qkTile_piece q k _ (by norm_num) _ _ x

/-- The largest score of query `i`. -/
def mx (q : Vec Ideal S1x512x512 .bf16) (k : Vec Ideal S1x3072x512 .bf16) (i : Fin 512) : EReal :=
  Finset.univ.sup fun j : Fin 3072 => sc q k j i

theorem qkMax_tile (q : Vec Ideal S1x512x512 .bf16) (k : Vec Ideal S1x3072x512 .bf16) (o : ℕ) (ho : o ≤ 2816) (h0 h) (a : Fin 8) (i : Fin 512) :
    qkMax (View.ld q (Rect.unit (s := S1x512x512) ![0, 0, 0] S1x512x512.size h0))
      (View.ld k (Rect.unit (s := S1x3072x512) ![0, o, 0] S1x256x512.size h)) (ix2 a i)
      = rowsMax (fun n => sc q k (row n) i) o a.val := by
  pointwise [qkMax]
  rw [fold_max_eq]
  exact Finset.sup_congr rfl fun x _ => qkDot_tile q k o ho _ _ _ _

theorem maxRow_at (m : Vec Ideal S8x512 .f32) (a : Fin 8) (i : Fin 512) :
    maxRow (F := Ideal) m (ix2 a i) = (Finset.univ.sup fun b : Fin 8 => m (ix2 b i)) * (Named.named κ "softmax_scale" 0x3D8293EE#32 : Ideal .f32) := by
  pointwise [maxRow]
  rw [fold_max_eq]

theorem canon8_at {w : Vec Ideal S8x512 .f32} (h) (a : Fin 8) (i : Fin 512) :
    View.canon [(⟨Rect.unit (s := S8x512) ![0, 0] S8x512.size h, w⟩ : View.Piece (Elt Ideal) S8x512 .f32)] (ix2 a i) = w (ix2 a i) := by
  refine View.canon_apply_of_pieces w _ ?_ _ (cover8 w _)
  intro p hp x
  obtain rfl := List.mem_singleton.mp hp
  refine congrArg w (funext fun a => Fin.ext ?_)
  match a with
  | ⟨0, _⟩ => show (x 0).val = 0 + 1 * (x 0).val; omega
  | ⟨1, _⟩ => show (x 1).val = 0 + 1 * (x 1).val; omega

theorem maxOf_at (q : Vec Ideal S1x512x512 .bf16) (k : Vec Ideal S1x3072x512 .bf16) (a : Fin 8) (i : Fin 512) :
    maxOf q k (ix2 a i) = mx q k i * (Named.named κ "softmax_scale" 0x3D8293EE#32 : Ideal .f32) := by
  rw [show maxOf q k (ix2 a i) = maxRow (maxAll q k) (ix2 a i) from canon8_at _ a i, maxRow_at]
  refine congrArg₂ (fun x y : EReal => x * y) ?_ rfl
  unfold mx
  have := max_rows fun n => sc q k (row n) i
  simp only [row_val] at this
  refine Eq.trans (Finset.sup_congr rfl fun b _ => ?_) this.symm
  simp only [maxAll, maximumf_apply, Ideal.maximumf_def]
  rw [qkMax_tile q k 0 (by norm_num), qkMax_tile q k 256 (by norm_num), qkMax_tile q k 512 (by norm_num), qkMax_tile q k 768 (by norm_num),
    qkMax_tile q k 1024 (by norm_num), qkMax_tile q k 1280 (by norm_num), qkMax_tile q k 1536 (by norm_num), qkMax_tile q k 1792 (by norm_num),
    qkMax_tile q k 2048 (by norm_num), qkMax_tile q k 2304 (by norm_num), qkMax_tile q k 2560 (by norm_num), qkMax_tile q k 2816 (by norm_num)]

/-! ## EX -/

/-- One exponential, from the scores and the stored maxima. -/
def ex (s : Vec Ideal S3072x512 .f32) (m : Vec Ideal S8x512 .f32) (j : Fin 3072) (i : Fin 512) : EReal :=
  Ideal.exp2 (s (ix2 j i) * (Named.named κ "softmax_scale" 0x3D8293EE#32 : Ideal .f32) - m (ix2 ⟨j.val % 8, by omega⟩ i))

theorem exTile_tile (s : Vec Ideal S3072x512 .f32) (m : Vec Ideal S8x512 .f32) (o : ℕ) (ho : o ≤ 2816) (ho8 : o % 8 = 0) (h0 h)
    (t : Fin 32) (a : Fin 8) (i : Fin 512) :
    exTile (View.ld m (Rect.unit (s := S8x512) ![0, 0] S8x512.size h0))
      (View.ld s (Rect.unit (s := S3072x512) ![o, 0] S256x512.size h)) (ix3 t a i) = ex s m (row (o + (t.val * 8 + a.val))) i := by
  have ht := t.isLt
  have ha := a.isLt
  rw [row_eq _ (by omega)]
  pointwise [exTile]
  refine congrArg Ideal.exp2 (congrArg₂ (· - ·) (congrArg (· * _) (congrArg s ?_)) (congrArg m ?_))
  · refine congrArg₂ ix2 (Fin.ext ?_) (Fin.ext ?_) <;> simp
  · refine congrArg₂ ix2 (Fin.ext ?_) (Fin.ext ?_)
    · simp; omega
    · simp

theorem exStore_piece (s : Vec Ideal S3072x512 .f32) (m : Vec Ideal S8x512 .f32) (o : ℕ) (ho : o ≤ 2816) (ho8 : o % 8 = 0) (h0 h)
    (x : (Rect.unit (s := S3072x512) ![o, 0] S256x512.size (inb_tile o ho)).shape.Idx) :
    exStore (View.ld m (Rect.unit (s := S8x512) ![0, 0] S8x512.size h0))
      (View.ld s (Rect.unit (s := S3072x512) ![o, 0] S256x512.size h)) x
      = (fun y : S3072x512.Idx => ex s m (y 0) (y 1)) ((Rect.unit (s := S3072x512) ![o, 0] S256x512.size (inb_tile o ho)).emb x) := by
  have hx : x = ix2 (n0 := 256) (n1 := 512) (x 0) (x 1) := (ix2_eta (n0 := 256) (n1 := 512) x).symm
  have h0 : (x 0).val < 256 := (x 0).isLt
  generalize ha : (x 0 : Fin 256) = a at hx
  generalize hb : (x 1 : Fin 512) = b at hx
  subst hx
  have ha' : a.val < 256 := a.isLt
  pointwise [exStore]
  refine (exTile_tile s m o ho ho8 _ _ _ _ _).trans ?_
  refine congrArg₂ (ex s m) (Fin.ext ?_) (Fin.ext ?_)
  · rw [row_eq _ (by show o + (a.val / 8 * 8 + a.val % 8) < 3072; omega)]; show o + (a.val / 8 * 8 + a.val % 8) = o + 1 * a.val; omega
  · show b.val = 0 + 1 * b.val; omega

theorem expsOf_at (s : Vec Ideal S3072x512 .f32) (m : Vec Ideal S8x512 .f32) (j : Fin 3072) (i : Fin 512) :
    expsOf s m (ix2 j i) = ex s m j i := by
  refine (View.canon_apply_of_pieces (fun y : S3072x512.Idx => ex s m (y 0) (y 1)) (expPieces s m) ?_ _ (expPieces_cover s m _)).trans rfl
  intro p hp x
  simp only [expPieces, List.mem_cons, List.not_mem_nil, or_false] at hp
  rcases hp with rfl | rfl | rfl | rfl | rfl | rfl | rfl | rfl | rfl | rfl | rfl | rfl <;>
    exact exStore_piece s m _ (by norm_num) (by norm_num) _ _ x

theorem exSum_tile (s : Vec Ideal S3072x512 .f32) (m : Vec Ideal S8x512 .f32) (o : ℕ) (ho : o ≤ 2816) (ho8 : o % 8 = 0) (h0 h) (a : Fin 8) (i : Fin 512) :
    exSum (View.ld m (Rect.unit (s := S8x512) ![0, 0] S8x512.size h0))
      (View.ld s (Rect.unit (s := S3072x512) ![o, 0] S256x512.size h)) (ix2 a i)
      = ∑ x : Fin 32, (fun n => ex s m (row n) i) (o + (x.val * 8 + a.val)) := by
  pointwise [exSum]
  exact Finset.sum_congr rfl fun x _ => exTile_tile s m o ho ho8 _ _ _ _ _

theorem recipRow_at (l : Vec Ideal S8x512 .f32) (a : Fin 8) (i : Fin 512) :
    recipRow (F := Ideal) l (ix2 a i) = Ideal.div (Ideal.ofBits .f32 0x3F800000#32) (∑ b : Fin 8, l (ix2 b i)) := by
  pointwise [recipRow]

theorem recipOf_at (s : Vec Ideal S3072x512 .f32) (m : Vec Ideal S8x512 .f32) (a : Fin 8) (i : Fin 512) :
    recipOf s m (ix2 a i) = Ideal.div (Ideal.ofBits .f32 0x3F800000#32) (∑ j : Fin 3072, ex s m j i) := by
  refine (canon8_at _ a i).trans ((recipRow_at _ a i).trans (congrArg (Ideal.div _) ?_))
  have := sum_rows fun n => ex s m (row n) i
  simp only [row_val] at this
  refine Eq.trans (Finset.sum_congr rfl fun b _ => ?_) this.symm
  simp only [sumAll, addf_apply, Ideal.addf_def]
  rw [exSum_tile s m 0 (by norm_num) rfl, exSum_tile s m 256 (by norm_num) rfl, exSum_tile s m 512 (by norm_num) rfl, exSum_tile s m 768 (by norm_num) rfl,
    exSum_tile s m 1024 (by norm_num) rfl, exSum_tile s m 1280 (by norm_num) rfl, exSum_tile s m 1536 (by norm_num) rfl, exSum_tile s m 1792 (by norm_num) rfl,
    exSum_tile s m 2048 (by norm_num) rfl, exSum_tile s m 2304 (by norm_num) rfl, exSum_tile s m 2560 (by norm_num) rfl, exSum_tile s m 2816 (by norm_num) rfl]
  rw [show (broadcast S8x512 (Scalar.ofBits .f32 0x00000000#32 : Ideal .f32)) (ix2 b i) = (0 : EReal) from Ideal.ofBits_zero_f32]

/-! ## PV -/

/-- One term of the weighted sum. -/
def pvTerm (e : Vec Ideal S3072x512 .f32) (r : Vec Ideal S8x512 .f32) (v : Vec Ideal S1x512x3072 .bf16) (d i : Fin 512) (j : Fin 3072) : EReal :=
  v (ix3 0 d j) * (e (ix2 j i) * r (ix2 ⟨j.val % 8, by omega⟩ i))

theorem pvDot_tile (e : Vec Ideal S3072x512 .f32) (r : Vec Ideal S8x512 .f32) (v : Vec Ideal S1x512x3072 .bf16) (o : ℕ) (ho : o ≤ 2816) (ho8 : o % 8 = 0)
    (h0 h h1) (d i : Fin 512) :
    pvDot (View.ld r (Rect.unit (s := S8x512) ![0, 0] S8x512.size h0)) (View.ld e (Rect.unit (s := S3072x512) ![o, 0] S256x512.size h))
      (View.ld v (Rect.unit (s := S1x512x3072) ![0, 0, o] S1x512x256.size h1)) (ix2 d i)
      = ∑ x : Fin 256, (fun n => pvTerm e r v d i (row n)) (o + x.val) := by
  pointwise [pvDot]
  refine Finset.sum_congr rfl fun x _ => ?_
  have hx := x.isLt
  rw [row_eq _ (by omega)]
  refine congrArg₂ (· * ·) (congrArg v ?_) (congrArg₂ (· * ·) (congrArg e ?_) (congrArg r ?_))
  · refine funext fun a => Fin.ext ?_
    match a with
    | ⟨0, _⟩ => rfl
    | ⟨1, _⟩ => simp [ix3]
    | ⟨2, _⟩ => simp [ix3]
  · refine congrArg₂ ix2 (Fin.ext ?_) (Fin.ext ?_) <;> simp
  · refine congrArg₂ ix2 (Fin.ext ?_) (Fin.ext ?_)
    · simp; omega
    · simp

theorem canonS_at {w : Vec Ideal S512x512 .f32} (h) (a i : Fin 512) :
    View.canon [(⟨Rect.unit (s := S512x512) ![0, 0] S512x512.size h, w⟩ : View.Piece (Elt Ideal) S512x512 .f32)] (ix2 a i) = w (ix2 a i) := by
  refine View.canon_apply_of_pieces w _ ?_ _ (coverS w _)
  intro p hp x
  obtain rfl := List.mem_singleton.mp hp
  refine congrArg w (funext fun a => Fin.ext ?_)
  match a with
  | ⟨0, _⟩ => show (x 0).val = 0 + 1 * (x 0).val; omega
  | ⟨1, _⟩ => show (x 1).val = 0 + 1 * (x 1).val; omega

theorem outOf_at (e : Vec Ideal S3072x512 .f32) (r : Vec Ideal S8x512 .f32) (v : Vec Ideal S1x512x3072 .bf16) (d i : Fin 512) :
    outOf e r v (ix2 d i) = ∑ j : Fin 3072, pvTerm e r v d i j := by
  refine (canonS_at _ d i).trans ((congrFun (shapeCast_self _ _) _).trans ?_)
  have := sum_tiles fun n => pvTerm e r v d i (row n)
  simp only [row_val] at this
  refine Eq.trans ?_ this.symm
  simp only [pvAll, addf_apply, Ideal.addf_def]
  rw [pvDot_tile e r v 0 (by norm_num) rfl, pvDot_tile e r v 256 (by norm_num) rfl, pvDot_tile e r v 512 (by norm_num) rfl, pvDot_tile e r v 768 (by norm_num) rfl,
    pvDot_tile e r v 1024 (by norm_num) rfl, pvDot_tile e r v 1280 (by norm_num) rfl, pvDot_tile e r v 1536 (by norm_num) rfl, pvDot_tile e r v 1792 (by norm_num) rfl,
    pvDot_tile e r v 2048 (by norm_num) rfl, pvDot_tile e r v 2304 (by norm_num) rfl, pvDot_tile e r v 2560 (by norm_num) rfl, pvDot_tile e r v 2816 (by norm_num) rfl]

end Cert.KernelIdeal.Gen

end
-- ==== Proof.Attn.Spec.lean ====
/- What both programs compute, as functions of the arguments over the extended reals: attention, the quantiser, and the
   projection; and that the kernel's form of the softmax is the reference's. -/
module

public import proofs.«01_k».proof.Proof.Attn.Quant

@[expose] public section

noncomputable section

namespace Cert.Spec

open Idealize.ShloMosaic

/-- The arguments, by coordinates: the transposed queries, the keys, the transposed values, the block's input, and the
    output projection's weight, scale and bias. -/
structure Args where
  qt : Fin 7 → Fin 512 → Fin 3072 → EReal
  k : Fin 7 → Fin 3072 → Fin 512 → EReal
  vt : Fin 7 → Fin 512 → Fin 3072 → EReal
  x : Fin 7 → Fin 3072 → Fin 512 → EReal
  w : Fin 512 → Fin 512 → EReal
  s : Fin 512 → EReal
  b : Fin 512 → EReal

/-! ## The softmax of one query -/

/-- The square root of the number of channels. -/
def root : EReal := Ideal.sqrt (Ideal.ofBits .f32 0x44000000#32)

/-- One exponential: of the scaled score less the largest scaled score. -/
def expo (f : Fin 3072 → EReal) (j : Fin 3072) : EReal :=
  Ideal.exp (Ideal.div (f j) root - Finset.univ.sup fun l => Ideal.div (f l) root)

/-- The weight of key `j`. -/
def weight (f : Fin 3072 → EReal) (j : Fin 3072) : EReal :=
  expo f j * Ideal.div (Ideal.ofBits .f32 0x3F800000#32) (∑ l, expo f l)

/-- The weighted sum. -/
def attn (f v : Fin 3072 → EReal) : EReal := ∑ j, weight f j * v j

theorem root_eq : root = ((Real.sqrt 512 : ℝ) : EReal) := by
  have h : Ideal.ofBits .f32 0x44000000#32 = ((512 : ℝ) : EReal) := by
    have := Quant.pw_coe 136 (by omega) (by omega)
    norm_num [Quant.pw] at this ⊢
    try exact this
  unfold root
  rw [h]
  show (if (512 : ℝ) < 0 then (⊥ : EReal) else ((Real.sqrt 512 : ℝ) : EReal)) = _
  rw [if_neg (by norm_num)]

theorem root_pos : 0 < Real.sqrt 512 := Real.sqrt_pos.mpr (by norm_num)

theorem div_root (x : EReal) : Ideal.div x root = x * (((Real.sqrt 512)⁻¹ : ℝ) : EReal) := by
  rw [root_eq]
  unfold Ideal.div
  rw [if_neg (by exact_mod_cast root_pos.ne'), EReal.coe_inv]

/-- The supremum of scaled numbers is the supremum scaled. -/
theorem sup_scaled (f : Fin 3072 → EReal) (a : ℝ) (ha : 0 < a) :
    (Finset.univ.sup fun l => f l * (a : EReal)) = (Finset.univ.sup f) * (a : EReal) := by
  refine (Finset.apply_sup_eq_sup_comp_of_linearOrder (fun x : EReal => x * (a : EReal)) (fun x y h => ?_) ?_).symm
  · exact mul_le_mul_of_nonneg_right h (by exact_mod_cast ha.le)
  · exact EReal.bot_mul_coe_of_pos ha

/-- A power of two of scaled numbers' difference is the exponential of the difference. -/
theorem exp2_scaled (x y : EReal) (c : ℝ) (hc : 0 < c) (hl : c = (Real.log 2)⁻¹) :
    Ideal.exp2 (x * (c : EReal) - y * (c : EReal)) = Ideal.exp (x - y) := by
  induction x using EReal.rec with
  | bot => rw [EReal.bot_mul_coe_of_pos hc, EReal.bot_sub, EReal.bot_sub]; rfl
  | top =>
    induction y using EReal.rec with
    | bot => rw [EReal.bot_mul_coe_of_pos hc, EReal.top_mul_coe_of_pos hc, EReal.top_sub_bot]; rfl
    | top => rw [EReal.top_mul_coe_of_pos hc, EReal.sub_top]; rfl
    | coe y => rw [EReal.top_mul_coe_of_pos hc, ← EReal.coe_mul, EReal.top_sub_coe, EReal.top_sub_coe]; rfl
  | coe x =>
    induction y using EReal.rec with
    | bot => rw [EReal.bot_mul_coe_of_pos hc, ← EReal.coe_mul, EReal.coe_sub_bot, EReal.coe_sub_bot]; rfl
    | top => rw [EReal.top_mul_coe_of_pos hc, EReal.sub_top, EReal.sub_top]; rfl
    | coe y =>
      rw [← EReal.coe_mul, ← EReal.coe_mul, ← EReal.coe_sub, ← EReal.coe_sub]
      show ((Real.rpow 2 (x * c - y * c) : ℝ) : EReal) = ((Real.exp (x - y) : ℝ) : EReal)
      have h2 : Real.log 2 ≠ 0 := (Real.log_pos (by norm_num)).ne'
      have : (2 : ℝ) ^ (x * c - y * c) = Real.exp (x - y) := by
        rw [Real.rpow_def_of_pos (by norm_num), hl]
        congr 1
        field_simp
      exact congrArg _ this

/-- The kernel's exponential, at its folded scale `k`, is the reference's. -/
theorem expo_eq (f : Fin 3072 → EReal) (j : Fin 3072) (k : EReal)
    (hk : k = (((Real.sqrt 512)⁻¹ * (Real.log 2)⁻¹ : ℝ) : EReal)) :
    Ideal.exp2 (f j * k - (Finset.univ.sup f) * k) = expo f j := by
  have ha : 0 < (Real.sqrt 512)⁻¹ := inv_pos.mpr root_pos
  have hc : 0 < (Real.log 2)⁻¹ := inv_pos.mpr (Real.log_pos (by norm_num))
  unfold expo
  simp only [div_root]
  rw [sup_scaled f _ ha, hk, EReal.coe_mul, ← mul_assoc, ← mul_assoc]
  exact exp2_scaled _ _ _ hc rfl

/-! ## The quantiser -/

/-- The ratio of a group of 32 numbers: the largest magnitude over 448. -/
def ratioOf (f : Fin 32 → EReal) : EReal := (Finset.univ.sup fun x => max (f x) (-f x)) * Ideal.ofBits .f32 0x3B124925#32

/-- The code of the number `o` at the ratio `r`. -/
def codeOf (o r : EReal) : EReal :=
  min (Ideal.ofBits .f32 0x43E00000#32) (max (Ideal.ofBits .f32 0xC3E00000#32) (Ideal.div o (Quant.scaleR r)))

/-- The group of a channel. -/
def grp (d : Fin 512) : Fin 16 := ⟨d.val / 32, by omega⟩

/-! ## The results -/

variable (A : Args)

/-- The attention output of query `i` in channel `d`, -/
def att (b : Fin 7) (i : Fin 3072) (d : Fin 512) : EReal :=
  attn (fun j => ∑ c, A.qt b c i * A.k b j c) (fun j => A.vt b d j)
/-- the ratio of its group `g`, -/
def rat (b : Fin 7) (i : Fin 3072) (g : Fin 16) : EReal := ratioOf fun x => att A b i ⟨g.val * 32 + x.val, by omega⟩
/-- the scale, -/
def scale (b : Fin 7) (i : Fin 3072) (g : Fin 16) : EReal := Quant.scaleR (rat A b i g)
/-- the code, -/
def code (b : Fin 7) (i : Fin 3072) (d : Fin 512) : EReal := codeOf (att A b i d) (rat A b i (grp d))
/-- the projection of the quantised values, -/
def proj (b : Fin 7) (i : Fin 3072) (e : Fin 512) : EReal :=
  (∑ d, (code A b i d * scale A b i (grp d)) * A.w d e) * A.s e + A.b e
/-- and the residual sum. -/
def res (b : Fin 7) (i : Fin 3072) (e : Fin 512) : EReal := A.x b i e + proj A b i e

end Cert.Spec

end
-- ==== Proof.Attn.Epilogue.lean ====
/- The epilogue of one block, read element by element over the extended reals: the quantiser's scales, codes and
   quantised values, and the projection. -/
module

public import proofs.«01_k».proof.Proof.Attn.Cover
public import proofs.«01_k».proof.Proof.Attn.ScaleBits
public import proofs.«01_k».proof.Proof.Attn.Reads
public import proofs.«01_k».proof.Proof.Attn.Spec

@[expose] public section

set_option maxRecDepth 16384

noncomputable section

namespace Cert.KernelIdeal.Gen

open Idealize.ShloMosaic Idealize.ShloMosaic.TcCoe
open Cert.Spec (ratioOf codeOf grp)

theorem absf_nonneg (x : EReal) : 0 ≤ max x (-x) := by
  rcases le_total 0 x with h | h
  · exact le_max_of_le_left h
  · exact le_max_of_le_right (EReal.neg_nonneg.mpr h)

theorem inv448_nonneg : 0 ≤ Ideal.ofBits .f32 0x3B124925#32 := by
  simp only [Ideal.ofBits, Ideal.ieee]
  simp
  norm_num
  try exact_mod_cast (by positivity)

theorem ratioOf_nonneg (f : Fin 32 → EReal) : 0 ≤ ratioOf f :=
  mul_nonneg (le_trans (absf_nonneg (f 0)) (Finset.le_sup (f := fun x => max (f x) (-f x)) (Finset.mem_univ 0))) inv448_nonneg

/-- The ratio of group `g` of channels at query `i`. -/
def rat (o : Vec Ideal S512x512 .f32) (g : Fin 16) (i : Fin 512) : EReal :=
  ratioOf fun x => o (ix2 ⟨g.val * 32 + x.val, by omega⟩ i)

/-- Query number `n`. -/
def qry (n : ℕ) : Fin 512 := Fin.ofNat 512 n

theorem qry_eq (n : ℕ) (h : n < 512) : qry n = ⟨n, h⟩ := Fin.ext (Nat.mod_eq_of_lt h)

theorem ld_strip (o : Vec Ideal S512x512 .f32) (c : ℕ) (hc : c ≤ 384) (h) (d : Fin 512) (i : Fin 128) :
    View.ld o (Rect.unit (s := S512x512) ![0, c] S512x128.size h) (ix2 d i) = o (ix2 d (qry (c + i.val))) := by
  have hi := i.isLt
  rw [qry_eq _ (by omega)]
  refine congrArg o (funext fun a => Fin.ext ?_)
  match a with
  | ⟨0, _⟩ => show 0 + 1 * d.val = d.val; omega
  | ⟨1, _⟩ => show c + 1 * i.val = c + i.val; omega

theorem ratio_strip (o : Vec Ideal S512x512 .f32) (c : ℕ) (hc : c ≤ 384) (h) (g : Fin 16) (i : Fin 128) :
    ratio (F := Ideal) (View.ld o (Rect.unit (s := S512x512) ![0, c] S512x128.size h)) (ix2 g i) = rat o g (qry (c + i.val)) := by
  have : ∀ p : FVec Ideal S512x128 .f32, ratio (F := Ideal) p (ix2 g i) = ratioOf fun x => p (ix2 ⟨g.val * 32 + x.val, by omega⟩ i) := by
    intro p
    pointwise [ratio, blocks]
    rw [fold_max_eq]; rfl
  rw [this]
  exact congrArg ratioOf (funext fun x => ld_strip o c hc h _ i)

theorem rat_nonneg (o : Vec Ideal S512x512 .f32) (g : Fin 16) (i : Fin 512) : 0 ≤ rat o g i := ratioOf_nonneg _

theorem scale_strip (o : Vec Ideal S512x512 .f32) (c : ℕ) (hc : c ≤ 384) (h) (g : Fin 16) (i : Fin 128) :
    scale (F := Ideal) (View.ld o (Rect.unit (s := S512x512) ![0, c] S512x128.size h)) (ix2 g i) = Quant.scaleR (rat o g (qry (c + i.val))) := by
  rw [scale_at, ratio_strip o c hc, Quant.scale_eq _ (rat_nonneg _ _ _)]

theorem code_strip (o : Vec Ideal S512x512 .f32) (c : ℕ) (hc : c ≤ 384) (h) (d : Fin 512) (i : Fin 128) (g : Fin 16) (hg : g = grp d) :
    min (Ideal.ofBits .f32 0x43E00000#32) (max (Ideal.ofBits .f32 0xC3E00000#32)
      (View.ld o (Rect.unit (s := S512x512) ![0, c] S512x128.size h) (ix2 d i)
        * scaleInv (F := Ideal) (View.ld o (Rect.unit (s := S512x512) ![0, c] S512x128.size h)) (ix2 g i)))
      = codeOf (o (ix2 d (qry (c + i.val)))) (rat o (grp d) (qry (c + i.val))) := by
  subst hg
  rw [scaleInv_at, ratio_strip o c hc, ld_strip o c hc, Quant.mul_inv_eq _ _ (rat_nonneg _ _ _)]
  rfl

theorem codesStrip_tile (o : Vec Ideal S512x512 .f32) (c : ℕ) (hc : c ≤ 384) (h) (i : Fin 128) (d : Fin 512) :
    codesStrip (F := Ideal) (View.ld o (Rect.unit (s := S512x512) ![0, c] S512x128.size h)) (ix3 0 i d)
      = codeOf (o (ix2 d (qry (c + i.val)))) (rat o (grp d) (qry (c + i.val))) := by
  have : ∀ p : FVec Ideal S512x128 .f32, codesStrip (F := Ideal) p (ix3 0 i d)
      = min (Ideal.ofBits .f32 0x43E00000#32) (max (Ideal.ofBits .f32 0xC3E00000#32) (p (ix2 d i) * scaleInv p (ix2 ⟨d.val / 32, by omega⟩ i))) := by
    intro p
    pointwise [codesStrip, codes, blocks, spread]
  rw [this]
  exact code_strip o c hc h d i _ rfl

theorem actStrip_tile (o : Vec Ideal S512x512 .f32) (c : ℕ) (hc : c ≤ 384) (h) (i : Fin 128) (d : Fin 512) :
    actStrip (F := Ideal) (View.ld o (Rect.unit (s := S512x512) ![0, c] S512x128.size h)) (ix2 i d)
      = codeOf (o (ix2 d (qry (c + i.val)))) (rat o (grp d) (qry (c + i.val))) * Quant.scaleR (rat o (grp d) (qry (c + i.val))) := by
  have : ∀ p : FVec Ideal S512x128 .f32, (actStrip (F := Ideal) p (ix2 i d) : EReal)
      = min (Ideal.ofBits .f32 0x43E00000#32) (max (Ideal.ofBits .f32 0xC3E00000#32) (p (ix2 d i) * scaleInv p (ix2 ⟨d.val / 32, by omega⟩ i)))
        * (scale (F := Ideal) p (ix2 ⟨d.val / 32, by omega⟩ i) : EReal) := by
    intro p
    pointwise [actStrip, codes, blocks, spread]
  rw [this, scale_strip o c hc]
  exact congrArg₂ (fun u v : EReal => u * v) (code_strip o c hc h d i _ rfl) rfl

theorem scaleStrip_tile (o : Vec Ideal S512x512 .f32) (c : ℕ) (hc : c ≤ 384) (h) (i : Fin 128) (g : Fin 16) :
    scaleStrip (F := Ideal) (View.ld o (Rect.unit (s := S512x512) ![0, c] S512x128.size h)) (ix3 0 i g)
      = Quant.scaleR (rat o g (qry (c + i.val))) := by
  have : ∀ p : FVec Ideal S512x128 .f32, scaleStrip (F := Ideal) p (ix3 0 i g) = scale p (ix2 g i) := by
    intro p
    pointwise [scaleStrip]
  rw [this, scale_strip o c hc]

theorem inb_code (c : ℕ) (hc : c ≤ 384) : ∀ a : Fin S1x512x512.rank, (![0, c, 0] : Fin 3 → ℕ) a + S1x128x512.size a ≤ S1x512x512.size a := by
  intro a
  match a with
  | ⟨0, _⟩ => show 0 + 1 ≤ 1; omega
  | ⟨1, _⟩ => show c + 128 ≤ 512; omega
  | ⟨2, _⟩ => show 0 + 512 ≤ 512; omega

theorem inb_scale (c : ℕ) (hc : c ≤ 384) : ∀ a : Fin S1x512x16.rank, (![0, c, 0] : Fin 3 → ℕ) a + S1x128x16.size a ≤ S1x512x16.size a := by
  intro a
  match a with
  | ⟨0, _⟩ => show 0 + 1 ≤ 1; omega
  | ⟨1, _⟩ => show c + 128 ≤ 512; omega
  | ⟨2, _⟩ => show 0 + 16 ≤ 16; omega

theorem inb_act (c : ℕ) (hc : c ≤ 384) : ∀ a : Fin S512x512.rank, (![c, 0] : Fin 2 → ℕ) a + S128x512.size a ≤ S512x512.size a := by
  intro a
  match a with
  | ⟨0, _⟩ => show c + 128 ≤ 512; omega
  | ⟨1, _⟩ => show 0 + 512 ≤ 512; omega

theorem codes_piece (o : Vec Ideal S512x512 .f32) (c : ℕ) (hc : c ≤ 384) (h)
    (x : (Rect.unit (s := S1x512x512) ![0, c, 0] S1x128x512.size (inb_code c hc)).shape.Idx) :
    codesStrip (F := Ideal) (View.ld o (Rect.unit (s := S512x512) ![0, c] S512x128.size h)) x
      = (fun y : S1x512x512.Idx => codeOf (o (ix2 (y 2) (y 1))) (rat o (grp (y 2)) (y 1)))
          ((Rect.unit (s := S1x512x512) ![0, c, 0] S1x128x512.size (inb_code c hc)).emb x) := by
  obtain ⟨a, b, rfl⟩ : ∃ (a : Fin 128) (b : Fin 512), x = ix3 (n0 := 1) (n1 := 128) (n2 := 512) 0 a b := by
    refine ⟨x 1, x 2, funext fun a => ?_⟩
    match a with
    | ⟨0, _⟩ => exact Fin.ext (by have : (x 0).val < 1 := (x 0).isLt; show (x 0).val = 0; omega)
    | ⟨1, _⟩ => rfl
    | ⟨2, _⟩ => rfl
  have ha' : a.val < 128 := a.isLt
  refine (codesStrip_tile o c hc h a b).trans ?_
  have e1 : qry (c + a.val) = (⟨c + 1 * a.val, by omega⟩ : Fin 512) := by rw [qry_eq _ (by omega)]; exact Fin.ext (by simp)
  have e2 : b = (⟨0 + 1 * b.val, by omega⟩ : Fin 512) := Fin.ext (by simp)
  rw [e1]
  refine congrArg₂ codeOf (congrArg o (congrArg₂ ix2 e2 rfl)) (congrArg₂ (rat o) (congrArg grp e2) rfl)

theorem scales_piece (o : Vec Ideal S512x512 .f32) (c : ℕ) (hc : c ≤ 384) (h)
    (x : (Rect.unit (s := S1x512x16) ![0, c, 0] S1x128x16.size (inb_scale c hc)).shape.Idx) :
    scaleStrip (F := Ideal) (View.ld o (Rect.unit (s := S512x512) ![0, c] S512x128.size h)) x
      = (fun y : S1x512x16.Idx => Quant.scaleR (rat o (y 2) (y 1)))
          ((Rect.unit (s := S1x512x16) ![0, c, 0] S1x128x16.size (inb_scale c hc)).emb x) := by
  obtain ⟨a, b, rfl⟩ : ∃ (a : Fin 128) (b : Fin 16), x = ix3 (n0 := 1) (n1 := 128) (n2 := 16) 0 a b := by
    refine ⟨x 1, x 2, funext fun a => ?_⟩
    match a with
    | ⟨0, _⟩ => exact Fin.ext (by have : (x 0).val < 1 := (x 0).isLt; show (x 0).val = 0; omega)
    | ⟨1, _⟩ => rfl
    | ⟨2, _⟩ => rfl
  have ha' : a.val < 128 := a.isLt
  refine (scaleStrip_tile o c hc h a b).trans ?_
  have e1 : qry (c + a.val) = (⟨c + 1 * a.val, by omega⟩ : Fin 512) := by rw [qry_eq _ (by omega)]; exact Fin.ext (by simp)
  have e2 : b = (⟨0 + 1 * b.val, by omega⟩ : Fin 16) := Fin.ext (by simp)
  rw [e1]
  exact congrArg Quant.scaleR (congrArg₂ (rat o) e2 rfl)

theorem act_piece (o : Vec Ideal S512x512 .f32) (c : ℕ) (hc : c ≤ 384) (h)
    (x : (Rect.unit (s := S512x512) ![c, 0] S128x512.size (inb_act c hc)).shape.Idx) :
    actStrip (F := Ideal) (View.ld o (Rect.unit (s := S512x512) ![0, c] S512x128.size h)) x
      = (fun y : S512x512.Idx => codeOf (o (ix2 (y 1) (y 0))) (rat o (grp (y 1)) (y 0)) * Quant.scaleR (rat o (grp (y 1)) (y 0)))
          ((Rect.unit (s := S512x512) ![c, 0] S128x512.size (inb_act c hc)).emb x) := by
  obtain ⟨a, b, rfl⟩ : ∃ (a : Fin 128) (b : Fin 512), x = ix2 (n0 := 128) (n1 := 512) a b :=
    ⟨x 0, x 1, (ix2_eta (n0 := 128) (n1 := 512) x).symm⟩
  have ha' : a.val < 128 := a.isLt
  refine (actStrip_tile o c hc h a b).trans ?_
  have e1 : qry (c + a.val) = (⟨c + 1 * a.val, by omega⟩ : Fin 512) := by rw [qry_eq _ (by omega)]; exact Fin.ext (by simp)
  have e2 : b = (⟨0 + 1 * b.val, by omega⟩ : Fin 512) := Fin.ext (by simp)
  rw [e1]
  exact congrArg₂ (fun u v : EReal => u * v) (congrArg₂ codeOf (congrArg o (congrArg₂ ix2 e2 rfl)) (congrArg₂ (rat o) (congrArg grp e2) rfl))
    (congrArg Quant.scaleR (congrArg₂ (rat o) (congrArg grp e2) rfl))

/-- The codes, -/
theorem codesOf_at (o : Vec Ideal S512x512 .f32) (i d : Fin 512) :
    codesOf (F := Ideal) o (ix3 0 i d) = codeOf (o (ix2 d i)) (rat o (grp d) i) := by
  refine (View.canon_apply_of_pieces (fun y : S1x512x512.Idx => codeOf (o (ix2 (y 2) (y 1))) (rat o (grp (y 2)) (y 1)))
    (codePieces (F := Ideal) o) ?_ _ (codePieces_cover o _)).trans rfl
  intro p hp x
  simp only [codePieces, List.mem_cons, List.not_mem_nil, or_false] at hp
  rcases hp with rfl | rfl | rfl | rfl <;> exact codes_piece o _ (by norm_num) _ x

/-- the scales, -/
theorem scalesOf_at (o : Vec Ideal S512x512 .f32) (i : Fin 512) (g : Fin 16) :
    scalesOf (F := Ideal) o (ix3 0 i g) = Quant.scaleR (rat o g i) := by
  refine (View.canon_apply_of_pieces (fun y : S1x512x16.Idx => Quant.scaleR (rat o (y 2) (y 1)))
    (scalePieces (F := Ideal) o) ?_ _ (scalePieces_cover o _)).trans rfl
  intro p hp x
  simp only [scalePieces, List.mem_cons, List.not_mem_nil, or_false] at hp
  rcases hp with rfl | rfl | rfl | rfl <;> exact scales_piece o _ (by norm_num) _ x

/-- the quantised values. -/
theorem actOf_at (o : Vec Ideal S512x512 .f32) (i d : Fin 512) :
    actOf (F := Ideal) o (ix2 i d) = codeOf (o (ix2 d i)) (rat o (grp d) i) * Quant.scaleR (rat o (grp d) i) := by
  refine (View.canon_apply_of_pieces (fun y : S512x512.Idx => codeOf (o (ix2 (y 1) (y 0))) (rat o (grp (y 1)) (y 0)) * Quant.scaleR (rat o (grp (y 1)) (y 0)))
    (actPieces (F := Ideal) o) ?_ _ (actPieces_cover o _)).trans rfl
  intro p hp x
  simp only [actPieces, List.mem_cons, List.not_mem_nil, or_false] at hp
  rcases hp with rfl | rfl | rfl | rfl <;> exact act_piece o _ (by norm_num) _ x

/-! ## The projection -/

/-- One number of the projection of the quantised values `a`. -/
def pj (a w : Vec Ideal S512x512 .bf16) (s b : Vec Ideal S1x512 .f32) (i e : Fin 512) : EReal :=
  (∑ d : Fin 512, a (ix2 i d) * w (ix2 d e)) * s (ix2 0 e) + b (ix2 0 e)

theorem project_at (a w : Vec Ideal S512x512 .bf16) (s b : Vec Ideal S1x512 .f32) (i e : Fin 512) :
    project (F := Ideal) a w s b (ix2 i e) = pj a w s b i e := by
  pointwise [project, pj]

theorem canonY_at {w : Vec Ideal S1x512x512 .bf16} (h) (y : S1x512x512.Idx) :
    View.canon [(⟨Rect.unit (s := S1x512x512) ![0, 0, 0] S1x512x512.size h, w⟩ : View.Piece (Elt Ideal) S1x512x512 .bf16)] y = w y := by
  refine View.canon_apply_of_pieces w _ ?_ _ (coverY w _)
  intro p hp x
  obtain rfl := List.mem_singleton.mp hp
  refine congrArg w (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

theorem weightOf_at (w : Vec Ideal S512x512 .fp8e4m3) (d e : Fin 512) : weightOf (F := Ideal) w (ix2 d e) = w (ix2 d e) := by
  refine (View.canon_apply_of_pieces w _ ?_ _ (coverS _ _))
  intro p hp x
  obtain rfl := List.mem_singleton.mp hp
  exact (congrFun (shapeCast_self (s := S512x512) (extf (F := Ideal) .bf16 (View.ld w (Rect.unit (s := S512x512) ![0, 0] S512x512.size inb_S512x512_S512x512_0_0)) bitsLt_fp8e4m3_bf16)
    shapeCasts_S512x512_S512x512) x).trans rfl

/-- Reading all of a buffer. -/
theorem ld_all {s : Shape} {e : EltTy} (X : Vec Ideal s e) (o : Fin s.rank → ℕ) (ho : ∀ a, o a = 0) (h) :
    View.ld X (Rect.unit (s := s) o s.size h) = X := by
  funext y
  refine congrArg X (funext fun a => Fin.ext ?_)
  show o a + 1 * (y a).val = (y a).val
  rw [ho]; omega

theorem projOf_at (a w : Vec Ideal S512x512 .bf16) (s b : Vec Ideal S1x512 .f32) (i e : Fin 512) :
    projOf (F := Ideal) a w s b (ix3 0 i e) = pj a w s b i e := by
  refine (canonY_at _ _).trans ?_
  rw [ld_all a _ (by decide), ld_all w _ (by decide), ld_all s _ (by decide), ld_all b _ (by decide)]
  refine Eq.trans ?_ (project_at a w s b i e)
  pointwise [projStore]

theorem resOf_at (x : Vec Ideal S1x512x512 .bf16) (a w : Vec Ideal S512x512 .bf16) (s b : Vec Ideal S1x512 .f32) (i e : Fin 512) :
    resOf (F := Ideal) x a w s b (ix3 0 i e) = x (ix3 0 i e) + pj a w s b i e := by
  refine (canonY_at _ _).trans ?_
  rw [ld_all a _ (by decide), ld_all w _ (by decide), ld_all s _ (by decide), ld_all b _ (by decide), ld_all x _ (by decide)]
  refine Eq.trans ?_ (congrArg (x (ix3 0 i e) + ·) (project_at a w s b i e))
  pointwise [resStore]

end Cert.KernelIdeal.Gen

end
-- ==== Proof.Attn.Blocks.lean ====
/- The kernel's blocks, element by element in terms of the arguments: block `n` is query block `n % 6` of batch `n / 6`. -/
module

public import proofs.«01_k».proof.Proof.Attn.Epilogue
public import proofs.«01_k».proof.Proof.Attn.Inv
public import Idealize.ShloMosaic.Lib.Pipeline.ValueKit.Point
public import Idealize.ShloMosaic.Lib.Claim

@[expose] public section

noncomputable section

namespace Cert.KernelIdeal.Gen

open Idealize.ShloMosaic Idealize.ShloMosaic.TcCoe Idealize.SL.Sem

variable (m : (ℓ : Loc nD τ sig) → Buf (Elt Ideal) ℓ)

/-- The arguments in a memory. -/
def args (c : Dev nD) : Cert.Spec.Args where
  qt b d i := (m ((c : Thread nD τ).loc main_arg0) : Vec Ideal S7x512x3072 .bf16) (ix3 b d i)
  k b j d := (m ((c : Thread nD τ).loc main_arg1) : Vec Ideal S7x3072x512 .bf16) (ix3 b j d)
  vt b d j := (m ((c : Thread nD τ).loc main_arg2) : Vec Ideal S7x512x3072 .bf16) (ix3 b d j)
  x b i e := (m ((c : Thread nD τ).loc main_arg3) : Vec Ideal S7x3072x512 .bf16) (ix3 b i e)
  w d e := (m ((c : Thread nD τ).loc main_arg4) : Vec Ideal S512x512 .fp8e4m3) (ix2 d e)
  s e := (m ((c : Thread nD τ).loc main_arg5) : Vec Ideal S512 .f32) (ix1 e)
  b e := (m ((c : Thread nD τ).loc main_arg6) : Vec Ideal S512 .f32) (ix1 e)

/-- The batch and the query of block `n`. -/
def bat (n : Fin 42) : Fin 7 := ⟨n.val / 6, by omega⟩
def qIdx (n : Fin 42) (i : Fin 512) : Fin 3072 := ⟨n.val % 6 * 512 + i.val, by omega⟩

theorem idx0 : ∀ n : Fin 42, win0_0.index (pt n.val) = ![n.val / 6, 0, n.val % 6] := by decide +kernel
theorem idx1 : ∀ n : Fin 42, win0_1.index (pt n.val) = ![n.val / 6, 0, 0] := by decide +kernel
theorem idx2 : ∀ n : Fin 42, win0_2.index (pt (n.val + 2)) = ![n.val / 6, 0, 0] := by decide +kernel
theorem idx3 : ∀ n : Fin 42, win0_3.index (pt (n.val + 3)) = ![n.val / 6, n.val % 6, 0] := by decide +kernel
theorem idx4 : win0_4.index (pt 0) = ![0, 0] := by decide +kernel
theorem idx5 : ∀ n : Fin 42, win0_5.index (pt (n.val + 3)) = ![0, 0] := by decide +kernel
theorem idx6 : ∀ n : Fin 42, win0_6.index (pt (n.val + 3)) = ![0, 0] := by decide +kernel

/-- The queries' block, -/
theorem q_at (c : Dev nD) (n : Fin 42) (d i : Fin 512) :
    (iblk m c 0 (pt n.val) : Vec Ideal S1x512x512 .bf16) (ix3 0 d i) = (args m c).qt (bat n) d (qIdx n i) := by
  blk_simp [iblk]
  rw [V_main_arg0]
  refine congrArg (m ((c : Thread nD τ).loc main_arg0)) (funext fun a => Fin.ext ?_)
  blk_simp [idx0]
  match a with
  | ⟨0, _⟩ => show n.val / 6 * 1 + 0 = n.val / 6; omega
  | ⟨1, _⟩ => show 0 * 512 + d.val = d.val; omega
  | ⟨2, _⟩ => rfl

/-- the keys', -/
theorem k_at (c : Dev nD) (n : Fin 42) (j : Fin 3072) (d : Fin 512) :
    (iblk m c 1 (pt n.val) : Vec Ideal S1x3072x512 .bf16) (ix3 0 j d) = (args m c).k (bat n) j d := by
  blk_simp [iblk]
  rw [V_main_arg1]
  refine congrArg (m ((c : Thread nD τ).loc main_arg1)) (funext fun a => Fin.ext ?_)
  blk_simp [idx1]
  match a with
  | ⟨0, _⟩ => show n.val / 6 * 1 + 0 = n.val / 6; omega
  | ⟨1, _⟩ => show 0 * 3072 + j.val = j.val; omega
  | ⟨2, _⟩ => show 0 * 512 + d.val = d.val; omega

/-- the values', -/
theorem v_at (c : Dev nD) (n : Fin 42) (d : Fin 512) (j : Fin 3072) :
    (iblk m c 2 (pt (n.val + 2)) : Vec Ideal S1x512x3072 .bf16) (ix3 0 d j) = (args m c).vt (bat n) d j := by
  blk_simp [iblk]
  rw [V_main_arg2]
  refine congrArg (m ((c : Thread nD τ).loc main_arg2)) (funext fun a => Fin.ext ?_)
  blk_simp [idx2]
  match a with
  | ⟨0, _⟩ => show n.val / 6 * 1 + 0 = n.val / 6; omega
  | ⟨1, _⟩ => show 0 * 512 + d.val = d.val; omega
  | ⟨2, _⟩ => show 0 * 3072 + j.val = j.val; omega

/-- the residual's, -/
theorem x_at (c : Dev nD) (n : Fin 42) (i e : Fin 512) :
    (iblk m c 3 (pt (n.val + 3)) : Vec Ideal S1x512x512 .bf16) (ix3 0 i e) = (args m c).x (bat n) (qIdx n i) e := by
  blk_simp [iblk]
  rw [V_main_arg3]
  refine congrArg (m ((c : Thread nD τ).loc main_arg3)) (funext fun a => Fin.ext ?_)
  blk_simp [idx3]
  match a with
  | ⟨0, _⟩ => show n.val / 6 * 1 + 0 = n.val / 6; omega
  | ⟨1, _⟩ => rfl
  | ⟨2, _⟩ => show 0 * 512 + e.val = e.val; omega

/-- the weights, -/
theorem w_at (c : Dev nD) (d e : Fin 512) :
    (iblk m c 4 (pt 0) : Vec Ideal S512x512 .fp8e4m3) (ix2 d e) = (args m c).w d e := by
  blk_simp [iblk]
  rw [V_main_arg4]
  refine congrArg (m ((c : Thread nD τ).loc main_arg4)) (funext fun a => Fin.ext ?_)
  blk_simp [idx4]
  match a with
  | ⟨0, _⟩ => show 0 * 512 + d.val = d.val; omega
  | ⟨1, _⟩ => show 0 * 512 + e.val = e.val; omega

theorem row0_at (c : Dev nD) (e : Fin 512) : (V m c main_v0 : Vec Ideal S1x512 .f32) (ix2 0 e) = (args m c).s e := by
  entry_read
  pointwise
  rfl

theorem row1_at (c : Dev nD) (e : Fin 512) : (V m c main_v1 : Vec Ideal S1x512 .f32) (ix2 0 e) = (args m c).b e := by
  entry_read
  pointwise
  rfl

/-- the scales of its columns, -/
theorem s_at (c : Dev nD) (n : Fin 42) (e : Fin 512) :
    (iblk m c 5 (pt (n.val + 3)) : Vec Ideal S1x512 .f32) (ix2 0 e) = (args m c).s e := by
  refine Eq.trans ?_ (row0_at m c e)
  blk_simp [iblk]
  refine congrArg (V m c main_v0) (funext fun a => Fin.ext ?_)
  blk_simp [idx5]
  match a with
  | ⟨0, _⟩ => rfl
  | ⟨1, _⟩ => show 0 * 512 + e.val = e.val; omega

/-- and the bias. -/
theorem b_at (c : Dev nD) (n : Fin 42) (e : Fin 512) :
    (iblk m c 6 (pt (n.val + 3)) : Vec Ideal S1x512 .f32) (ix2 0 e) = (args m c).b e := by
  refine Eq.trans ?_ (row1_at m c e)
  blk_simp [iblk]
  refine congrArg (V m c main_v1) (funext fun a => Fin.ext ?_)
  blk_simp [idx6]
  match a with
  | ⟨0, _⟩ => rfl
  | ⟨1, _⟩ => show 0 * 512 + e.val = e.val; omega

/-! ## A block's results -/

theorem scale_const : (Named.named κ "softmax_scale" 0x3D8293EE#32 : Ideal .f32) = (((Real.sqrt 512)⁻¹ * (Real.log 2)⁻¹ : ℝ) : EReal) :=
  IdealRules.named_const.ideal_named_scalar _ _ _ _ rfl

/-- The scores of one query of block `n`. -/
theorem sc_at (c : Dev nD) (n : Fin 42) (j : Fin 3072) (i : Fin 512) :
    sc (iblk m c 0 (pt n.val)) (iblk m c 1 (pt n.val)) j i = ∑ d, (args m c).qt (bat n) d (qIdx n i) * (args m c).k (bat n) j d := by
  unfold sc
  refine Finset.sum_congr rfl fun d _ => ?_
  rw [q_at, k_at, mul_comm]

theorem ex_at (c : Dev nD) (n : Fin 42) (j : Fin 3072) (i : Fin 512) :
    ex (scoresAt m c n.val) (maxAt m c n.val) j i
      = Cert.Spec.expo (fun j => ∑ d, (args m c).qt (bat n) d (qIdx n i) * (args m c).k (bat n) j d) j := by
  unfold ex scoresAt maxAt
  rw [scoresOf_at, maxOf_at]
  unfold mx
  simp only [sc_at]
  exact Cert.Spec.expo_eq (fun j => ∑ d, (args m c).qt (bat n) d (qIdx n i) * (args m c).k (bat n) j d) j _ scale_const

/-- Its attention output. -/
theorem outAt_at (c : Dev nD) (n : Fin 42) (d i : Fin 512) :
    outAt m c n.val (ix2 d i) = Cert.Spec.att (args m c) (bat n) (qIdx n i) d := by
  unfold outAt
  rw [outOf_at]
  unfold Cert.Spec.att Cert.Spec.attn Cert.Spec.weight
  refine Finset.sum_congr rfl fun j _ => ?_
  unfold pvTerm expsAt recipAt
  rw [v_at, expsOf_at, recipOf_at, ex_at, mul_comm]
  simp only [ex_at]

theorem rat_at (c : Dev nD) (n : Fin 42) (g : Fin 16) (i : Fin 512) :
    rat (outAt m c n.val) g i = Cert.Spec.rat (args m c) (bat n) (qIdx n i) g := by
  unfold rat Cert.Spec.rat
  exact congrArg Cert.Spec.ratioOf (funext fun x => outAt_at m c n _ i)

/-- The codes, -/
theorem codesAt_at (c : Dev nD) (n : Fin 42) (i d : Fin 512) :
    codesAt m c n.val (ix3 0 i d) = Cert.Spec.code (args m c) (bat n) (qIdx n i) d := by
  unfold codesAt Cert.Spec.code
  rw [codesOf_at, outAt_at, rat_at]

/-- the scales, -/
theorem scalesAt_at (c : Dev nD) (n : Fin 42) (i : Fin 512) (g : Fin 16) :
    scalesAt m c n.val (ix3 0 i g) = Cert.Spec.scale (args m c) (bat n) (qIdx n i) g := by
  unfold scalesAt Cert.Spec.scale
  rw [scalesOf_at, rat_at]

theorem pj_at (c : Dev nD) (n : Fin 42) (i e : Fin 512) :
    pj (actOf (outAt m c n.val)) (weightAt m c) (iblk m c 5 (pt (n.val + 3))) (iblk m c 6 (pt (n.val + 3))) i e
      = Cert.Spec.proj (args m c) (bat n) (qIdx n i) e := by
  unfold pj Cert.Spec.proj Cert.Spec.code Cert.Spec.scale weightAt
  rw [s_at, b_at]
  simp only [actOf_at, weightOf_at, w_at, outAt_at, rat_at]

/-- the projection, -/
theorem projAt_at (c : Dev nD) (n : Fin 42) (i e : Fin 512) :
    projAt m c n.val (ix3 0 i e) = Cert.Spec.proj (args m c) (bat n) (qIdx n i) e := by
  unfold projAt
  rw [projOf_at, pj_at]

/-- and the residual sum. -/
theorem resAt_at (c : Dev nD) (n : Fin 42) (i e : Fin 512) :
    resAt m c n.val (ix3 0 i e) = Cert.Spec.res (args m c) (bat n) (qIdx n i) e := by
  unfold resAt Cert.Spec.res
  rw [resOf_at, pj_at, x_at]

end Cert.KernelIdeal.Gen

end
-- ==== Proof.Attn.Arrays.lean ====
/- The kernel's four result arrays after a run, as functions of the arguments. -/
module

public import proofs.«01_k».proof.Proof.Attn.Blocks
public import proofs.«01_k».proof.Proof.Attn.Launch
public import Idealize.ShloMosaic.Lib.Pipeline.ArrRel

@[expose] public section

noncomputable section

namespace Cert.KernelIdeal.Gen

open Idealize.ShloMosaic Idealize.ShloMosaic.TcCoe Idealize.SL.Sem

variable (m : (ℓ : Loc nD τ sig) → Buf (Elt Ideal) ℓ)

/-- The block written back at a point, when one is. -/
def blkOf (t : Fin cfg0.N) : Fin 42 := ⟨(t.val - 3) % 42, Nat.mod_lt _ (by omega)⟩

theorem late7 : ∀ t : Fin cfg0.N, (cfg0.win 7).flush t = true → 3 ≤ t.val ∧ win0_7.index t = ![(blkOf t).val / 6, (blkOf t).val % 6, 0] := by decide +kernel
theorem late8 : ∀ t : Fin cfg0.N, (cfg0.win 8).flush t = true → 3 ≤ t.val ∧ win0_8.index t = ![(blkOf t).val / 6, (blkOf t).val % 6, 0] := by decide +kernel
theorem late9 : ∀ t : Fin cfg0.N, (cfg0.win 9).flush t = true → 3 ≤ t.val ∧ win0_9.index t = ![(blkOf t).val / 6, (blkOf t).val % 6, 0] := by decide +kernel
theorem late10 : ∀ t : Fin cfg0.N, (cfg0.win 10).flush t = true → 3 ≤ t.val ∧ win0_10.index t = ![(blkOf t).val / 6, (blkOf t).val % 6, 0] := by decide +kernel

theorem blkOf_val (t : Fin cfg0.N) (h : 3 ≤ t.val) : (blkOf t).val = t.val - 3 :=
  Nat.mod_eq_of_lt (by have := lt_of_lt_of_eq t.isLt N_0; omega)

/-- The results as arrays. -/
def resG (A : Cert.Spec.Args) : Vec Ideal S7x3072x512 .bf16 := fun y => Cert.Spec.res A (y 0) (y 1) (y 2)
def projG (A : Cert.Spec.Args) : Vec Ideal S7x3072x512 .bf16 := fun y => Cert.Spec.proj A (y 0) (y 1) (y 2)
def codeG (A : Cert.Spec.Args) : Vec Ideal S7x3072x512 .fp8e4m3 := fun y => Cert.Spec.code A (y 0) (y 1) (y 2)
def scaleG (A : Cert.Spec.Args) : Vec Ideal S7x3072x16 .f32 := fun y => Cert.Spec.scale A (y 0) (y 1) (y 2)

theorem cov7 : (cfg0.win 7).Covers := by decide +kernel
theorem cov8 : (cfg0.win 8).Covers := by decide +kernel
theorem cov9 : (cfg0.win 9).Covers := by decide +kernel
theorem cov10 : (cfg0.win 10).Covers := by decide +kernel

/-! ### The residual sum -/

theorem left7 (c : Dev nD) (t : Fin cfg0.N) (X : (cfg0.win 7).block.Idx → Elt Ideal (cfg0.win 7).elt)
    (hX : ((dats m 0 c).toRRel marked (leavesRel m c)).Leaves 7 t X) (h : 3 ≤ t.val) : X = resAt m c (t.val - 3) :=
  (dats m 0 c).toRRel_leaves (w := 7) (by rfl) hX h

theorem emb7 (t : Fin cfg0.N) (h : win0_7.index t = ![(blkOf t).val / 6, (blkOf t).val % 6, 0]) (i : Fin 512) (e : Fin 512) :
    ((win0_7.blk t).view.emb (ix3 (n0 := 1) (n1 := 512) (n2 := 512) 0 i e) : S7x3072x512.Idx) = ix3 (bat (blkOf t)) (qIdx (blkOf t) i) e := by
  refine funext fun a => Fin.ext ?_
  blk_simp [h]
  match a with
  | ⟨0, _⟩ => show (blkOf t).val / 6 * 1 + 0 = (blkOf t).val / 6; omega
  | ⟨1, _⟩ => rfl
  | ⟨2, _⟩ => show 0 * 512 + e.val = e.val; omega

theorem arr7 (c : Dev nD) (dat : Pipeline.Dat τ (Elt Ideal) Unit ℕ (UR sig nD τ) ℕ cfg0 c)
    (h : ∀ t, (cfg0.win 7).flush t = true → dat.after 7 t = resAt m c (blkOf t).val) : dat.arrAt 7 cfg0.N = resG (args m c) := by
  refine dat.arrAt_eq_of_covers 7 _ cov7 fun t hf y => ?_
  have key : ∀ y : S1x512x512.Idx, resAt m c (blkOf t).val y = resG (args m c) ((win0_7.blk t).view.emb y) := by
    intro y
    obtain ⟨z, i, e, rfl⟩ : ∃ (z : Fin 1) (i : Fin 512) (e : Fin 512), y = ix3 (n0 := 1) (n1 := 512) (n2 := 512) z i e :=
      ⟨y 0, y 1, y 2, (ix3_eta (n0 := 1) (n1 := 512) (n2 := 512) y).symm⟩
    obtain rfl : z = 0 := Subsingleton.elim _ _
    rw [emb7 t (late7 t hf).2]
    exact resAt_at m c (blkOf t) i e
  rw [h t hf]
  blk_simp
  exact key _

/-! ### The projection -/

theorem left8 (c : Dev nD) (t : Fin cfg0.N) (X : (cfg0.win 8).block.Idx → Elt Ideal (cfg0.win 8).elt)
    (hX : ((dats m 0 c).toRRel marked (leavesRel m c)).Leaves 8 t X) (h : 3 ≤ t.val) : X = projAt m c (t.val - 3) :=
  (dats m 0 c).toRRel_leaves (w := 8) (by rfl) hX h

theorem emb8 (t : Fin cfg0.N) (h : win0_8.index t = ![(blkOf t).val / 6, (blkOf t).val % 6, 0]) (i : Fin 512) (e : Fin 512) :
    ((win0_8.blk t).view.emb (ix3 (n0 := 1) (n1 := 512) (n2 := 512) 0 i e) : S7x3072x512.Idx) = ix3 (bat (blkOf t)) (qIdx (blkOf t) i) e := by
  refine funext fun a => Fin.ext ?_
  blk_simp [h]
  match a with
  | ⟨0, _⟩ => show (blkOf t).val / 6 * 1 + 0 = (blkOf t).val / 6; omega
  | ⟨1, _⟩ => rfl
  | ⟨2, _⟩ => show 0 * 512 + e.val = e.val; omega

theorem arr8 (c : Dev nD) (dat : Pipeline.Dat τ (Elt Ideal) Unit ℕ (UR sig nD τ) ℕ cfg0 c)
    (h : ∀ t, (cfg0.win 8).flush t = true → dat.after 8 t = projAt m c (blkOf t).val) : dat.arrAt 8 cfg0.N = projG (args m c) := by
  refine dat.arrAt_eq_of_covers 8 _ cov8 fun t hf y => ?_
  have key : ∀ y : S1x512x512.Idx, projAt m c (blkOf t).val y = projG (args m c) ((win0_8.blk t).view.emb y) := by
    intro y
    obtain ⟨z, i, e, rfl⟩ : ∃ (z : Fin 1) (i : Fin 512) (e : Fin 512), y = ix3 (n0 := 1) (n1 := 512) (n2 := 512) z i e :=
      ⟨y 0, y 1, y 2, (ix3_eta (n0 := 1) (n1 := 512) (n2 := 512) y).symm⟩
    obtain rfl : z = 0 := Subsingleton.elim _ _
    rw [emb8 t (late8 t hf).2]
    exact projAt_at m c (blkOf t) i e
  rw [h t hf]
  blk_simp
  exact key _

/-! ### The codes -/

theorem left9 (c : Dev nD) (t : Fin cfg0.N) (X : (cfg0.win 9).block.Idx → Elt Ideal (cfg0.win 9).elt)
    (hX : ((dats m 0 c).toRRel marked (leavesRel m c)).Leaves 9 t X) (h : 3 ≤ t.val) : X = codesAt m c (t.val - 3) :=
  (dats m 0 c).toRRel_leaves (w := 9) (by rfl) hX h

theorem emb9 (t : Fin cfg0.N) (h : win0_9.index t = ![(blkOf t).val / 6, (blkOf t).val % 6, 0]) (i : Fin 512) (e : Fin 512) :
    ((win0_9.blk t).view.emb (ix3 (n0 := 1) (n1 := 512) (n2 := 512) 0 i e) : S7x3072x512.Idx) = ix3 (bat (blkOf t)) (qIdx (blkOf t) i) e := by
  refine funext fun a => Fin.ext ?_
  blk_simp [h]
  match a with
  | ⟨0, _⟩ => show (blkOf t).val / 6 * 1 + 0 = (blkOf t).val / 6; omega
  | ⟨1, _⟩ => rfl
  | ⟨2, _⟩ => show 0 * 512 + e.val = e.val; omega

theorem arr9 (c : Dev nD) (dat : Pipeline.Dat τ (Elt Ideal) Unit ℕ (UR sig nD τ) ℕ cfg0 c)
    (h : ∀ t, (cfg0.win 9).flush t = true → dat.after 9 t = codesAt m c (blkOf t).val) : dat.arrAt 9 cfg0.N = codeG (args m c) := by
  refine dat.arrAt_eq_of_covers 9 _ cov9 fun t hf y => ?_
  have key : ∀ y : S1x512x512.Idx, codesAt m c (blkOf t).val y = codeG (args m c) ((win0_9.blk t).view.emb y) := by
    intro y
    obtain ⟨z, i, e, rfl⟩ : ∃ (z : Fin 1) (i : Fin 512) (e : Fin 512), y = ix3 (n0 := 1) (n1 := 512) (n2 := 512) z i e :=
      ⟨y 0, y 1, y 2, (ix3_eta (n0 := 1) (n1 := 512) (n2 := 512) y).symm⟩
    obtain rfl : z = 0 := Subsingleton.elim _ _
    rw [emb9 t (late9 t hf).2]
    exact codesAt_at m c (blkOf t) i e
  rw [h t hf]
  blk_simp
  exact key _

/-! ### The scales -/

theorem left10 (c : Dev nD) (t : Fin cfg0.N) (X : (cfg0.win 10).block.Idx → Elt Ideal (cfg0.win 10).elt)
    (hX : ((dats m 0 c).toRRel marked (leavesRel m c)).Leaves 10 t X) (h : 3 ≤ t.val) : X = scalesAt m c (t.val - 3) :=
  (dats m 0 c).toRRel_leaves (w := 10) (by rfl) hX h

theorem emb10 (t : Fin cfg0.N) (h : win0_10.index t = ![(blkOf t).val / 6, (blkOf t).val % 6, 0]) (i : Fin 512) (e : Fin 16) :
    ((win0_10.blk t).view.emb (ix3 (n0 := 1) (n1 := 512) (n2 := 16) 0 i e) : S7x3072x16.Idx) = ix3 (bat (blkOf t)) (qIdx (blkOf t) i) e := by
  refine funext fun a => Fin.ext ?_
  blk_simp [h]
  match a with
  | ⟨0, _⟩ => show (blkOf t).val / 6 * 1 + 0 = (blkOf t).val / 6; omega
  | ⟨1, _⟩ => rfl
  | ⟨2, _⟩ => show 0 * 16 + e.val = e.val; omega

theorem arr10 (c : Dev nD) (dat : Pipeline.Dat τ (Elt Ideal) Unit ℕ (UR sig nD τ) ℕ cfg0 c)
    (h : ∀ t, (cfg0.win 10).flush t = true → dat.after 10 t = scalesAt m c (blkOf t).val) : dat.arrAt 10 cfg0.N = scaleG (args m c) := by
  refine dat.arrAt_eq_of_covers 10 _ cov10 fun t hf y => ?_
  have key : ∀ y : S1x512x16.Idx, scalesAt m c (blkOf t).val y = scaleG (args m c) ((win0_10.blk t).view.emb y) := by
    intro y
    obtain ⟨z, i, e, rfl⟩ : ∃ (z : Fin 1) (i : Fin 512) (e : Fin 16), y = ix3 (n0 := 1) (n1 := 512) (n2 := 16) z i e :=
      ⟨y 0, y 1, y 2, (ix3_eta (n0 := 1) (n1 := 512) (n2 := 16) y).symm⟩
    obtain rfl : z = 0 := Subsingleton.elim _ _
    rw [emb10 t (late10 t hf).2]
    exact scalesAt_at m c (blkOf t) i e
  rw [h t hf]
  blk_simp
  exact key _

/-- The four result arrays at the end of a run. -/
theorem results {r : PUnit × MemSt nD τ sig (Elt Ideal)}
    (h : Pipeline.RDat.FramePost (cfgs 0) (fun c => (dats m 0 c).toRRel marked (leavesRel m c)) (V m) r) (c : Dev nD) :
    r.2.mem ((c : Thread nD τ).loc main_v2_0) = resG (args m c)
    ∧ r.2.mem ((c : Thread nD τ).loc main_v2_1) = projG (args m c)
    ∧ r.2.mem ((c : Thread nD τ).loc main_v2_2) = codeG (args m c)
    ∧ r.2.mem ((c : Thread nD τ).loc main_v2_3) = scaleG (args m c) := by
  obtain ⟨after, hL, hA⟩ := Pipeline.RDat.FramePost.exists_exact h c
  refine ⟨(hA 7).trans (arr7 m c _ fun t hf => ?_), (hA 8).trans (arr8 m c _ fun t hf => ?_),
    (hA 9).trans (arr9 m c _ fun t hf => ?_), (hA 10).trans (arr10 m c _ fun t hf => ?_)⟩
  · rw [Pipeline.RDat.withAfter_after, left7 m c t _ (hL 7 t hf) (late7 t hf).1, blkOf_val t (late7 t hf).1]
  · rw [Pipeline.RDat.withAfter_after, left8 m c t _ (hL 8 t hf) (late8 t hf).1, blkOf_val t (late8 t hf).1]
  · rw [Pipeline.RDat.withAfter_after, left9 m c t _ (hL 9 t hf) (late9 t hf).1, blkOf_val t (late9 t hf).1]
  · rw [Pipeline.RDat.withAfter_after, left10 m c t _ (hL 10 t hf) (late10 t hf).1, blkOf_val t (late10 t hf).1]

end Cert.KernelIdeal.Gen

end
-- ==== Proof.Attn.RefHost.lean ====
/- The reference's host operations, element by element: the attention output, the quantiser's scales, the scales
   spread over the channels, and the two rows. -/
module

public import proofs.«01_k».proof.Proof.Attn.RefRun
public import proofs.«01_k».proof.Proof.Attn.Spec
public import Idealize.ShloMosaic.Lib.Claim
public import Idealize.ShloMosaic.Lib.StableHlo.ReadAt

@[expose] public section

noncomputable section

namespace Cert.ReferenceIdeal.Value

open Cert.ReferenceIdeal Cert.ReferenceIdeal.Gen Idealize.ShloMosaic Idealize.ShloMosaic.TcCoe Idealize.SL.Sem

variable (m : (ℓ : Loc nD τ sig) → Buf (Elt Ideal) ℓ)

/-- The arguments in a memory. -/
def args (c : Dev nD) : Cert.Spec.Args where
  qt b d i := (m ((c : Thread nD τ).loc main_arg0) : Vec Ideal S7x512x3072 .bf16) (ix3 b d i)
  k b j d := (m ((c : Thread nD τ).loc main_arg1) : Vec Ideal S7x3072x512 .bf16) (ix3 b j d)
  vt b d j := (m ((c : Thread nD τ).loc main_arg2) : Vec Ideal S7x512x3072 .bf16) (ix3 b d j)
  x b i e := (m ((c : Thread nD τ).loc main_arg3) : Vec Ideal S7x3072x512 .bf16) (ix3 b i e)
  w d e := (m ((c : Thread nD τ).loc main_arg4) : Vec Ideal S512x512 .fp8e4m3) (ix2 d e)
  s e := (m ((c : Thread nD τ).loc main_arg5) : Vec Ideal S512 .f32) (ix1 e)
  b e := (m ((c : Thread nD τ).loc main_arg6) : Vec Ideal S512 .f32) (ix1 e)

/-- A fold of the maximum from minus infinity is the supremum. -/
theorem fold_max {n : ℕ} (f : Fin n → EReal) : Finset.fold max (Ideal.ofBits .f32 4286578688#32) f Finset.univ = Finset.univ.sup f := by
  rw [show Ideal.ofBits .f32 4286578688#32 = ⊥ by simp [Ideal.ofBits, Ideal.ieee]]; rfl

/-- The host operations up to the attention output, those up to the ratios, and the others. -/
theorem V_split (c : Dev nD) (b : Ref sig .tc) :
    V m c b = StableHlo.after ((hostOps0 (F := Ideal)).drop 30 ++ (hostOps0_1 ++ hostOps0_2))
      (StableHlo.after (((hostOps0 (F := Ideal)).take 30).drop 23) (StableHlo.after (((hostOps0 (F := Ideal)).take 30).take 23) fun b => m (c, b))) b := by
  rw [← StableHlo.after_append (List.take 23 _), List.take_append_drop, ← StableHlo.after_append, ← List.append_assoc, List.take_append_drop]
  show StableHlo.after [hostOps0, hostOps0_1, hostOps0_2].flatten _ _ = _
  rw [List.flatten_cons, List.flatten_cons, List.flatten_cons, List.flatten_nil, List.append_nil]

theorem head_at (c : Dev nD) (b : Fin 7) (i : Fin 3072) (d : Fin 512) :
    (StableHlo.after (((hostOps0 (F := Ideal)).take 30).take 23) (fun b => m (c, b)) main_v18 : Vec Ideal S7x3072x512 .f32) (ix3 b i d)
      = Cert.Spec.att (args m c) b i d := by
  simp only [hostOps0, List.take_succ_cons, List.take_zero]
  after_results
  pointwise
  simp only [fold_max]
  unfold Cert.Spec.att Cert.Spec.attn Cert.Spec.weight Cert.Spec.expo
  rw [Cert.Quant.one_eq, EReal.coe_one]
  rfl

/-- The groups of 32 channels. -/
theorem groups_at (o : Vec Ideal S7x3072x512 .f32) (b : Fin 7) (i : Fin 3072) (g : Fin 16) (x : Fin 32) :
    (shapeCast S7x3072x16x32 o shapeCasts_S7x3072x512_S7x3072x16x32 : Vec Ideal S7x3072x16x32 .f32) (ix4 b i g x)
      = o (ix3 b i ⟨g.val * 32 + x.val, by omega⟩) := by
  pointwise

/-- The largest magnitude of a group, scaled. -/
theorem largest_at (a : FVec Ideal S7x3072x16x32 .f32) (b : Fin 7) (i : Fin 3072) (g : Fin 16) :
    (mulf (Host.reduce FloatOps.maximumf (Host.absf a)
        (constant S_ .f32 0xFF800000#32) reducesTo_S7x3072x16x32_S7x3072x16_d3 h_S_)
      (broadcastInDim S7x3072x16 ![] bcast_S_S7x3072x16 (constant S_ .f32 0x3B124925#32)) : FVec Ideal S7x3072x16 .f32) (ix3 b i g)
      = Cert.Spec.ratioOf fun x => a (ix4 b i g x) := by
  rw [mulf_apply]
  refine congrArg₂ (fun x y : EReal => x * y) ?_ rfl
  rw [Host.reduce_eq_fold, Shape.ReducesTo.fold_fiber_r4_a3]
  exact fold_max fun x => max (a (ix4 b i g x)) (-a (ix4 b i g x))

/-- The ratios of an array. -/
theorem ratio_of (o : Vec Ideal S7x3072x512 .f32) (b : Fin 7) (i : Fin 3072) (g : Fin 16) :
    (mulf (Host.reduce FloatOps.maximumf (Host.absf (shapeCast S7x3072x16x32 o shapeCasts_S7x3072x512_S7x3072x16x32))
        (constant S_ .f32 0xFF800000#32) reducesTo_S7x3072x16x32_S7x3072x16_d3 h_S_)
      (broadcastInDim S7x3072x16 ![] bcast_S_S7x3072x16 (constant S_ .f32 0x3B124925#32)) : FVec Ideal S7x3072x16 .f32) (ix3 b i g)
      = Cert.Spec.ratioOf fun x => o (ix3 b i ⟨g.val * 32 + x.val, by omega⟩) := by
  refine (largest_at _ b i g).trans (congrArg Cert.Spec.ratioOf (funext fun x => groups_at o b i g x))

theorem ratio_at (W : Valuation τ sig (Elt Ideal)) (b : Fin 7) (i : Fin 3072) (g : Fin 16) :
    (StableHlo.after (((hostOps0 (F := Ideal)).take 30).drop 23) W main_v23 : Vec Ideal S7x3072x16 .f32) (ix3 b i g)
      = Cert.Spec.ratioOf fun x => (W main_v18 : Vec Ideal S7x3072x512 .f32) (ix3 b i ⟨g.val * 32 + x.val, by omega⟩) := by
  simp only [hostOps0, List.take_succ_cons, List.take_zero, List.drop_succ_cons, List.drop_zero]
  after_results
  exact ratio_of _ b i g

/-- A choice by two comparisons. -/
theorem sel_or (p q : Prop) [Decidable p] [Decidable q] (x y : EReal) :
    Scalar.select (IntOp.ori (BitVec.ofBool (decide p)) (BitVec.ofBool (decide q))) x y = if p ∨ q then x else y := by
  by_cases hp : p <;> by_cases hq : q <;> simp [hp, hq, Scalar.select, IntOp.ori]

theorem scale_tail (W : Valuation τ sig (Elt Ideal)) (b : Fin 7) (i : Fin 3072) (g : Fin 16) :
    (StableHlo.after ((hostOps0 (F := Ideal)).drop 30 ++ (hostOps0_1 ++ hostOps0_2)) W main_v40 : Vec Ideal S7x3072x16 .f32) (ix3 b i g)
      = Cert.Quant.scaleR ((W main_v23 : Vec Ideal S7x3072x16 .f32) (ix3 b i g)) := by
  simp only [hostOps0, hostOps0_1, hostOps0_2, List.drop_succ_cons, List.drop_zero, List.cons_append, List.nil_append]
  after_reads_at
  refine (sel_or _ _ _ _).trans ?_
  unfold Cert.Quant.scaleR
  rw [← EReal.coe_one, ← Cert.Quant.one_eq]
  rfl

theorem spread_tail (W : Valuation τ sig (Elt Ideal)) (b : Fin 7) (i : Fin 3072) (d : Fin 512) :
    (StableHlo.after ((hostOps0 (F := Ideal)).drop 30 ++ (hostOps0_1 ++ hostOps0_2)) W main_v43 : Vec Ideal S7x3072x512 .f32) (ix3 b i d)
      = Cert.Quant.scaleR ((W main_v23 : Vec Ideal S7x3072x16 .f32) (ix3 b i (Cert.Spec.grp d))) := by
  simp only [hostOps0, hostOps0_1, hostOps0_2, List.drop_succ_cons, List.drop_zero, List.cons_append, List.nil_append]
  after_reads_at
  refine (sel_or _ _ _ _).trans ?_
  unfold Cert.Quant.scaleR
  rw [← EReal.coe_one, ← Cert.Quant.one_eq]
  rfl

/-- The attention output, -/
theorem v18_at (c : Dev nD) (b : Fin 7) (i : Fin 3072) (d : Fin 512) :
    (V m c main_v18 : Vec Ideal S7x3072x512 .f32) (ix3 b i d) = Cert.Spec.att (args m c) b i d := by
  rw [V_split]
  refine Eq.trans ?_ (head_at m c b i d)
  generalize StableHlo.after (((hostOps0 (F := Ideal)).take 30).take 23) (fun b => m (c, b)) = W
  simp only [hostOps0, hostOps0_1, hostOps0_2, List.take_succ_cons, List.take_zero, List.drop_succ_cons, List.drop_zero, List.cons_append, List.nil_append]
  after_results

/-- the scales, -/
theorem v40_at (c : Dev nD) (b : Fin 7) (i : Fin 3072) (g : Fin 16) :
    (V m c main_v40 : Vec Ideal S7x3072x16 .f32) (ix3 b i g) = Cert.Spec.scale (args m c) b i g := by
  rw [V_split, scale_tail, ratio_at]
  exact congrArg Cert.Quant.scaleR (congrArg Cert.Spec.ratioOf (funext fun x => head_at m c b i _))

/-- the scales over the channels, -/
theorem v43_at (c : Dev nD) (b : Fin 7) (i : Fin 3072) (d : Fin 512) :
    (V m c main_v43 : Vec Ideal S7x3072x512 .f32) (ix3 b i d) = Cert.Spec.scale (args m c) b i (Cert.Spec.grp d) := by
  rw [V_split, spread_tail, ratio_at]
  exact congrArg Cert.Quant.scaleR (congrArg Cert.Spec.ratioOf (funext fun x => head_at m c b i _))

/-- and the two rows. -/
theorem row44_at (c : Dev nD) (e : Fin 512) : (V m c main_v44 : Vec Ideal S1x512 .f32) (ix2 0 e) = (args m c).s e := by
  unfold V
  simp only [hostOps0, hostOps0_1, hostOps0_2, List.flatten_cons, List.flatten_nil, List.cons_append, List.nil_append, List.append_nil]
  after_results
  pointwise
  rfl

theorem row45_at (c : Dev nD) (e : Fin 512) : (V m c main_v45 : Vec Ideal S1x512 .f32) (ix2 0 e) = (args m c).b e := by
  unfold V
  simp only [hostOps0, hostOps0_1, hostOps0_2, List.flatten_cons, List.flatten_nil, List.cons_append, List.nil_append, List.append_nil]
  after_results
  pointwise
  rfl

end Cert.ReferenceIdeal.Value

end
-- ==== Proof.Attn.RefPay.lean ====
/- What the reference's last region stores, element by element: the codes, the projection and the residual sum. -/
module

public import proofs.«01_k».proof.Proof.Attn.RefRun
public import proofs.«01_k».proof.Proof.Attn.Spec
public import Idealize.ShloMosaic.Lib.Claim

@[expose] public section

noncomputable section

namespace Cert.ReferenceIdeal.Value

open Cert.ReferenceIdeal Cert.ReferenceIdeal.Gen Idealize.ShloMosaic Idealize.ShloMosaic.TcCoe Idealize.SL.Sem

/-- Reading all of a buffer. -/
theorem ld_whole {s : Shape} {e : EltTy} (X : Vec Ideal s e) (o : Fin s.rank → ℕ) (ho : ∀ a, o a = 0) (h) :
    View.ld X (Rect.unit (s := s) o s.size h) = X := by
  funext y
  refine congrArg X (funext fun a => Fin.ext ?_)
  show o a + 1 * (y a).val = (y a).val
  rw [ho]; omega

/-- One store of all of a buffer leaves what it stores. -/
theorem canon_whole {e : EltTy} {w : Vec Ideal S7x3072x512 e} (y : S7x3072x512.Idx)
    (hc : ∃ pc ∈ ([⟨r0_0, w⟩] : List (View.Piece (Elt Ideal) S7x3072x512 e)), y ∈ pc.1.set) :
    View.canon [(⟨r0_0, w⟩ : View.Piece (Elt Ideal) S7x3072x512 e)] y = w y := by
  refine View.canon_apply_of_pieces w _ ?_ _ hc
  intro p hp x
  obtain rfl := List.mem_singleton.mp hp
  refine congrArg w (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

/-- One code. -/
def cd (o s : Vec Ideal S7x3072x512 .f32) (b : Fin 7) (i : Fin 3072) (d : Fin 512) : EReal :=
  min (Ideal.ofBits .f32 0x43E00000#32) (max (Ideal.ofBits .f32 0xC3E00000#32) (Ideal.div (o (ix3 b i d)) (s (ix3 b i d))))

/-- One number of the projection. -/
def pr (o s : Vec Ideal S7x3072x512 .f32) (w : Vec Ideal S512x512 .fp8e4m3) (u v : Vec Ideal S1x512 .f32) (b : Fin 7) (i : Fin 3072)
    (e : Fin 512) : EReal :=
  (∑ d : Fin 512, (cd o s b i d * s (ix3 b i d)) * w (ix2 d e)) * u (ix2 0 e) + v (ix2 0 e)

theorem pay1_at (o s : Vec Ideal S7x3072x512 .f32) (b : Fin 7) (i : Fin 3072) (d : Fin 512) :
    k0_pay1 (F := Ideal) o s (ix3 b i d) = cd o s b i d := by
  pointwise [k0_pay1, cd]

/-- Row `b * 3072 + i` of the rows of all batches. -/
theorem pay2_at (o s : Vec Ideal S7x3072x512 .f32) (w : Vec Ideal S512x512 .fp8e4m3) (u v : Vec Ideal S1x512 .f32) (b : Fin 7)
    (i : Fin 3072) (e : Fin 512) : k0_pay2 (F := Ideal) o s s w u v (ix3 b i e) = pr o s w u v b i e := by
  unfold pr
  simp only [← pay1_at]
  unfold k0_pay2
  generalize k0_pay1 (F := Ideal) o s = q
  pointwise

theorem pay3_at (o s : Vec Ideal S7x3072x512 .f32) (w : Vec Ideal S512x512 .fp8e4m3) (u v : Vec Ideal S1x512 .f32)
    (x : Vec Ideal S7x3072x512 .bf16) (y : S7x3072x512.Idx) :
    k0_pay3 (F := Ideal) o s s w u v x y = x y + k0_pay2 (F := Ideal) o s s w u v y := rfl

theorem pay4_at (o s : Vec Ideal S7x3072x512 .f32) (w : Vec Ideal S512x512 .fp8e4m3) (u v : Vec Ideal S1x512 .f32)
    (y : S7x3072x512.Idx) : k0_pay4 (F := Ideal) o s s w u v y = k0_pay2 (F := Ideal) o s s w u v y := rfl

theorem out8_at (x0 x1 : Vec Ideal S7x3072x512 .f32) (x2 : Vec Ideal S7x3072x512 .bf16) (x3 : Vec Ideal S512x512 .fp8e4m3)
    (x4 x5 : Vec Ideal S1x512 .f32) (b : Fin 7) (i : Fin 3072) (d : Fin 512) :
    out0_8 (F := Ideal) x0 x1 x2 x3 x4 x5 (ix3 b i d) = cd x0 x1 b i d := by
  unfold out0_8
  refine (canon_whole _ (cover0_8 _ _)).trans ?_
  rw [ld_whole x0 _ (by decide), ld_whole x1 _ (by decide)]
  exact pay1_at x0 x1 b i d

theorem out7_at (x0 x1 : Vec Ideal S7x3072x512 .f32) (x2 : Vec Ideal S7x3072x512 .bf16) (x3 : Vec Ideal S512x512 .fp8e4m3)
    (x4 x5 : Vec Ideal S1x512 .f32) (b : Fin 7) (i : Fin 3072) (e : Fin 512) :
    out0_7 (F := Ideal) x0 x1 x2 x3 x4 x5 (ix3 b i e) = pr x0 x1 x3 x4 x5 b i e := by
  unfold out0_7
  refine (canon_whole _ (cover0_7 _ _)).trans ?_
  rw [ld_whole x0 _ (by decide), ld_whole x1 _ (by decide), ld_whole x3 _ (by decide), ld_whole x4 _ (by decide), ld_whole x5 _ (by decide)]
  exact (pay4_at ..).trans (pay2_at x0 x1 x3 x4 x5 b i e)

theorem out6_at (x0 x1 : Vec Ideal S7x3072x512 .f32) (x2 : Vec Ideal S7x3072x512 .bf16) (x3 : Vec Ideal S512x512 .fp8e4m3)
    (x4 x5 : Vec Ideal S1x512 .f32) (b : Fin 7) (i : Fin 3072) (e : Fin 512) :
    out0_6 (F := Ideal) x0 x1 x2 x3 x4 x5 (ix3 b i e) = x2 (ix3 b i e) + pr x0 x1 x3 x4 x5 b i e := by
  unfold out0_6
  refine (canon_whole _ (cover0_6 _ _)).trans ?_
  rw [ld_whole x0 _ (by decide), ld_whole x1 _ (by decide), ld_whole x2 _ (by decide), ld_whole x3 _ (by decide), ld_whole x4 _ (by decide), ld_whole x5 _ (by decide)]
  exact (pay3_at ..).trans (congrArg (x2 (ix3 b i e) + ·) (pay2_at x0 x1 x3 x4 x5 b i e))

end Cert.ReferenceIdeal.Value

end
-- ==== Proof.Attn.RefValue.lean ====
/- The reference's result arrays after a run, as functions of the arguments. -/
module

public import proofs.«01_k».proof.Proof.Attn.RefHost
public import proofs.«01_k».proof.Proof.Attn.RefPay
public import Idealize.ShloMosaic.Lib.Pipeline.ValueKit.Point

@[expose] public section

noncomputable section

namespace Cert.ReferenceIdeal.Value

open Cert.ReferenceIdeal Cert.ReferenceIdeal.Gen Idealize.ShloMosaic Idealize.ShloMosaic.TcCoe Idealize.SL.Sem

variable (m : (ℓ : Loc nD τ sig) → Buf (Elt Ideal) ℓ)

/-! ## The blocks: each window is its whole array -/

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0, 0] := by decide +kernel

/-- The attention output, -/
theorem o_at (c : Dev nD) (t : Fin cfg0.N) (b : Fin 7) (i : Fin 3072) (d : Fin 512) :
    (iblk m c 0 t : Vec Ideal S7x3072x512 .f32) (ix3 b i d) = Cert.Spec.att (args m c) b i d := by
  refine Eq.trans ?_ (v18_at m c b i d)
  blk_simp [iblk]
  refine congrArg (V m c main_v18) (funext fun a => Fin.ext ?_)
  blk_simp [idx0]
  match a with
  | ⟨0, _⟩ => show 0 * 7 + b.val = b.val; omega
  | ⟨1, _⟩ => show 0 * 3072 + i.val = i.val; omega
  | ⟨2, _⟩ => show 0 * 512 + d.val = d.val; omega

/-- (the block of the scales, of any memory the region may find) -/
theorem blk1 (c : Dev nD) (W : (b : Ref sig .tc) → Buf (Elt Ideal) ((c : Thread nD τ).loc b)) (t : Fin cfg0.N) (b : Fin 7) (i : Fin 3072)
    (d : Fin 512) : (((cfg0.win 1).blk t).view.read (Elt Ideal) (W (Pipeline.arrRef spec0 1)) : Vec Ideal S7x3072x512 .f32) (ix3 b i d)
      = (W main_v43 : Vec Ideal S7x3072x512 .f32) (ix3 b i d) := by
  blk_simp
  refine congrArg (W main_v43) (funext fun a => Fin.ext ?_)
  blk_simp [idx1]
  match a with
  | ⟨0, _⟩ => show 0 * 7 + b.val = b.val; omega
  | ⟨1, _⟩ => show 0 * 3072 + i.val = i.val; omega
  | ⟨2, _⟩ => show 0 * 512 + d.val = d.val; omega

/-- the scales, spread, -/
theorem s_at (c : Dev nD) (t : Fin cfg0.N) (b : Fin 7) (i : Fin 3072) (d : Fin 512) :
    (iblk m c 1 t : Vec Ideal S7x3072x512 .f32) (ix3 b i d) = Cert.Spec.scale (args m c) b i (Cert.Spec.grp d) :=
  (blk1 c (V m c) t b i d).trans (v43_at m c b i d)

/-- the residual input, -/
theorem x_at (c : Dev nD) (t : Fin cfg0.N) (b : Fin 7) (i : Fin 3072) (e : Fin 512) :
    (iblk m c 2 t : Vec Ideal S7x3072x512 .bf16) (ix3 b i e) = (args m c).x b i e := by
  blk_simp [iblk]
  rw [V_main_arg3]
  refine congrArg (m ((c : Thread nD τ).loc main_arg3)) (funext fun a => Fin.ext ?_)
  blk_simp [idx2]
  match a with
  | ⟨0, _⟩ => show 0 * 7 + b.val = b.val; omega
  | ⟨1, _⟩ => show 0 * 3072 + i.val = i.val; omega
  | ⟨2, _⟩ => show 0 * 512 + e.val = e.val; omega

/-- the weights, -/
theorem w_at (c : Dev nD) (t : Fin cfg0.N) (d e : Fin 512) :
    (iblk m c 3 t : Vec Ideal S512x512 .fp8e4m3) (ix2 d e) = (args m c).w d e := by
  blk_simp [iblk]
  rw [V_main_arg4]
  refine congrArg (m ((c : Thread nD τ).loc main_arg4)) (funext fun a => Fin.ext ?_)
  blk_simp [idx3]
  match a with
  | ⟨0, _⟩ => show 0 * 512 + d.val = d.val; omega
  | ⟨1, _⟩ => show 0 * 512 + e.val = e.val; omega

/-- and the two rows. -/
theorem u_at (c : Dev nD) (t : Fin cfg0.N) (e : Fin 512) :
    (iblk m c 4 t : Vec Ideal S1x512 .f32) (ix2 0 e) = (args m c).s e := by
  refine Eq.trans ?_ (row44_at m c e)
  blk_simp [iblk]
  refine congrArg (V m c main_v44) (funext fun a => Fin.ext ?_)
  blk_simp [idx4]
  match a with
  | ⟨0, _⟩ => rfl
  | ⟨1, _⟩ => show 0 * 512 + e.val = e.val; omega

theorem v_at (c : Dev nD) (t : Fin cfg0.N) (e : Fin 512) :
    (iblk m c 5 t : Vec Ideal S1x512 .f32) (ix2 0 e) = (args m c).b e := by
  refine Eq.trans ?_ (row45_at m c e)
  blk_simp [iblk]
  refine congrArg (V m c main_v45) (funext fun a => Fin.ext ?_)
  blk_simp [idx5]
  match a with
  | ⟨0, _⟩ => rfl
  | ⟨1, _⟩ => show 0 * 512 + e.val = e.val; omega

/-! ## What the region leaves -/

theorem cd_eq (c : Dev nD) (t : Fin cfg0.N) (b : Fin 7) (i : Fin 3072) (d : Fin 512) :
    cd (iblk m c 0 t) (iblk m c 1 t) b i d = Cert.Spec.code (args m c) b i d := by
  unfold cd
  rw [o_at, s_at]
  rfl

theorem pr_eq (c : Dev nD) (t : Fin cfg0.N) (b : Fin 7) (i : Fin 3072) (e : Fin 512) :
    pr (iblk m c 0 t) (iblk m c 1 t) (iblk m c 3 t) (iblk m c 4 t) (iblk m c 5 t) b i e = Cert.Spec.proj (args m c) b i e := by
  unfold pr Cert.Spec.proj
  rw [u_at, v_at]
  refine congrArg (fun z : EReal => z * (args m c).s e + (args m c).b e) (Finset.sum_congr rfl fun d _ => ?_)
  rw [cd_eq, s_at, w_at]

/-! ## The result arrays -/

/-- The results as arrays. -/
def resG (A : Cert.Spec.Args) : Vec Ideal S7x3072x512 .bf16 := fun y => Cert.Spec.res A (y 0) (y 1) (y 2)
def projG (A : Cert.Spec.Args) : Vec Ideal S7x3072x512 .bf16 := fun y => Cert.Spec.proj A (y 0) (y 1) (y 2)
def codeG (A : Cert.Spec.Args) : Vec Ideal S7x3072x512 .fp8e4m3 := fun y => Cert.Spec.code A (y 0) (y 1) (y 2)
def scaleG (A : Cert.Spec.Args) : Vec Ideal S7x3072x16 .f32 := fun y => Cert.Spec.scale A (y 0) (y 1) (y 2)

theorem cov6 : (cfg0.win 6).Covers := by decide +kernel
theorem cov7 : (cfg0.win 7).Covers := by decide +kernel
theorem cov8 : (cfg0.win 8).Covers := by decide +kernel

theorem emb6 (t : Fin cfg0.N) (y : S7x3072x512.Idx) : ((win0_6.blk t).view.emb y : S7x3072x512.Idx) = y := by
  refine funext fun a => Fin.ext ?_
  blk_simp [idx6]
  match a with
  | ⟨0, _⟩ => show 0 * 7 + (y 0).val = (y 0).val; omega
  | ⟨1, _⟩ => show 0 * 3072 + (y 1).val = (y 1).val; omega
  | ⟨2, _⟩ => show 0 * 512 + (y 2).val = (y 2).val; omega

theorem arr6 (c : Dev nD) : (dats m 0 c).arrAt 6 cfg0.N = resG (args m c) := by
  refine (dats m 0 c).arrAt_eq_of_covers 6 _ cov6 fun t hf y => ?_
  have key : ∀ y : S7x3072x512.Idx,
      out0_6 (F := Ideal) (iblk m c 0 t) (iblk m c 1 t) (iblk m c 2 t) (iblk m c 3 t) (iblk m c 4 t) (iblk m c 5 t) y
        = resG (args m c) ((win0_6.blk t).view.emb y) := by
    intro y
    rw [emb6 t y]
    obtain ⟨b, i, e, rfl⟩ : ∃ (b : Fin 7) (i : Fin 3072) (e : Fin 512), y = ix3 (n0 := 7) (n1 := 3072) (n2 := 512) b i e :=
      ⟨y 0, y 1, y 2, (ix3_eta (n0 := 7) (n1 := 3072) (n2 := 512) y).symm⟩
    exact (out6_at _ _ _ _ _ _ b i e).trans (congrArg₂ (fun x y : EReal => x + y) (x_at m c t b i e) (pr_eq m c t b i e))
  rw [after0_6]
  blk_simp
  exact key _

theorem emb7 (t : Fin cfg0.N) (y : S7x3072x512.Idx) : ((win0_7.blk t).view.emb y : S7x3072x512.Idx) = y := by
  refine funext fun a => Fin.ext ?_
  blk_simp [idx7]
  match a with
  | ⟨0, _⟩ => show 0 * 7 + (y 0).val = (y 0).val; omega
  | ⟨1, _⟩ => show 0 * 3072 + (y 1).val = (y 1).val; omega
  | ⟨2, _⟩ => show 0 * 512 + (y 2).val = (y 2).val; omega

theorem arr7 (c : Dev nD) : (dats m 0 c).arrAt 7 cfg0.N = projG (args m c) := by
  refine (dats m 0 c).arrAt_eq_of_covers 7 _ cov7 fun t hf y => ?_
  have key : ∀ y : S7x3072x512.Idx,
      out0_7 (F := Ideal) (iblk m c 0 t) (iblk m c 1 t) (iblk m c 2 t) (iblk m c 3 t) (iblk m c 4 t) (iblk m c 5 t) y
        = projG (args m c) ((win0_7.blk t).view.emb y) := by
    intro y
    rw [emb7 t y]
    obtain ⟨b, i, e, rfl⟩ : ∃ (b : Fin 7) (i : Fin 3072) (e : Fin 512), y = ix3 (n0 := 7) (n1 := 3072) (n2 := 512) b i e :=
      ⟨y 0, y 1, y 2, (ix3_eta (n0 := 7) (n1 := 3072) (n2 := 512) y).symm⟩
    exact (out7_at _ _ _ _ _ _ b i e).trans (pr_eq m c t b i e)
  rw [after0_7]
  blk_simp
  exact key _

theorem emb8 (t : Fin cfg0.N) (y : S7x3072x512.Idx) : ((win0_8.blk t).view.emb y : S7x3072x512.Idx) = y := by
  refine funext fun a => Fin.ext ?_
  blk_simp [idx8]
  match a with
  | ⟨0, _⟩ => show 0 * 7 + (y 0).val = (y 0).val; omega
  | ⟨1, _⟩ => show 0 * 3072 + (y 1).val = (y 1).val; omega
  | ⟨2, _⟩ => show 0 * 512 + (y 2).val = (y 2).val; omega

theorem arr8 (c : Dev nD) : (dats m 0 c).arrAt 8 cfg0.N = codeG (args m c) := by
  refine (dats m 0 c).arrAt_eq_of_covers 8 _ cov8 fun t hf y => ?_
  have key : ∀ y : S7x3072x512.Idx,
      out0_8 (F := Ideal) (iblk m c 0 t) (iblk m c 1 t) (iblk m c 2 t) (iblk m c 3 t) (iblk m c 4 t) (iblk m c 5 t) y
        = codeG (args m c) ((win0_8.blk t).view.emb y) := by
    intro y
    rw [emb8 t y]
    obtain ⟨b, i, e, rfl⟩ : ∃ (b : Fin 7) (i : Fin 3072) (e : Fin 512), y = ix3 (n0 := 7) (n1 := 3072) (n2 := 512) b i e :=
      ⟨y 0, y 1, y 2, (ix3_eta (n0 := 7) (n1 := 3072) (n2 := 512) y).symm⟩
    exact (out8_at _ _ _ _ _ _ b i e).trans (cd_eq m c t b i e)
  rw [after0_8]
  blk_simp
  exact key _

theorem arr40 (c : Dev nD) : (V m c main_v40 : Vec Ideal S7x3072x16 .f32) = scaleG (args m c) := by
  funext y
  obtain ⟨b, i, g, rfl⟩ : ∃ (b : Fin 7) (i : Fin 3072) (g : Fin 16), y = ix3 (n0 := 7) (n1 := 3072) (n2 := 16) b i g :=
    ⟨y 0, y 1, y 2, (ix3_eta (n0 := 7) (n1 := 3072) (n2 := 16) y).symm⟩
  exact v40_at m c b i g

/-- The four result arrays at the end of a run. -/
theorem results (r : PUnit × MemSt nD τ sig (Elt Ideal)) (h : Pipeline.FramePost cfgs (dats m) 0 (V m) r) (c : Dev nD) :
    r.2.mem ((c : Thread nD τ).loc main_v46_0) = resG (args m c)
    ∧ r.2.mem ((c : Thread nD τ).loc main_v46_1) = projG (args m c)
    ∧ r.2.mem ((c : Thread nD τ).loc main_v46_2) = codeG (args m c)
    ∧ r.2.mem ((c : Thread nD τ).loc main_v40) = scaleG (args m c) :=
  ⟨(post6 m r h c).trans (arr6 m c), (post7 m r h c).trans (arr7 m c), (post8 m r h c).trans (arr8 m c),
    ((h c).2 main_v40 (Pipeline.mem_restRefs_of main_v40 (by decide) (by decide))).trans (arr40 m c)⟩

end Cert.ReferenceIdeal.Value

end
-- ==== Proof.Attn.Algebraic.lean ====
/- Over the extended reals the kernel and the reference, run from memories that agree on the arguments, end with the same
   four results. -/
module

public import proofs.«01_k».proof.Defs
public import proofs.«01_k».proof.Proof.Attn.Arrays
public import proofs.«01_k».proof.Proof.Attn.RefValue
public import Idealize.ShloMosaic.Adequacy

@[expose] public section

noncomputable section

namespace Cert.KernelIdeal.Gen

open Idealize.ShloMosaic Idealize.ShloMosaic.TcCoe Idealize.SL.Sem

/-- The reference reads the same arguments. -/
theorem args_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.Value.args m' c = args m c := by
  have e0 : (Cert.ReferenceIdeal.Value.args m' c).qt = (args m c).qt := funext fun b => funext fun d => funext fun i => congrFun h0 (ix3 b d i)
  have e1 : (Cert.ReferenceIdeal.Value.args m' c).k = (args m c).k := funext fun b => funext fun j => funext fun d => congrFun h1 (ix3 b j d)
  have e2 : (Cert.ReferenceIdeal.Value.args m' c).vt = (args m c).vt := funext fun b => funext fun d => funext fun j => congrFun h2 (ix3 b d j)
  have e3 : (Cert.ReferenceIdeal.Value.args m' c).x = (args m c).x := funext fun b => funext fun i => funext fun e => congrFun h3 (ix3 b i e)
  have e4 : (Cert.ReferenceIdeal.Value.args m' c).w = (args m c).w := funext fun d => funext fun e => congrFun h4 (ix2 d e)
  have e5 : (Cert.ReferenceIdeal.Value.args m' c).s = (args m c).s := funext fun e => congrFun h5 (ix1 e)
  have e6 : (Cert.ReferenceIdeal.Value.args m' c).b = (args m c).b := funext fun e => congrFun h6 (ix1 e)
  generalize Cert.ReferenceIdeal.Value.args m' c = A at *
  generalize args m c = B at *
  cases A; cases B
  simp only at e0 e1 e2 e3 e4 e5 e6
  subst e0 e1 e2 e3 e4 e5 e6
  rfl

theorem algebraic : Cert.algebraic_KernelIdeal_ReferenceIdeal := by
  intro m g m' g' _ hag
  refine ⟨fun c => resG (args m c), fun c => projG (args m c), fun c => codeG (args m c), fun c => scaleG (args m c), ?_, ?_⟩
  · refine (θ_run defs _ _).mono (fun r h c => ?_) (θ_run_and (run_main m g) (frame m g))
    obtain ⟨a, b, d, e⟩ := results m h.1.1 c
    exact ⟨a, b, d, e, h.2.1 c⟩
  · refine (θ_run Cert.ReferenceIdeal.defs _ _).mono (fun r h c => ?_) (Cert.ReferenceIdeal.Gen.run_main m' g')
    obtain ⟨h0, h1, h2, h3, h4, h5, h6⟩ := hag c
    obtain ⟨a, b, d, e⟩ := Cert.ReferenceIdeal.Value.results m' r h c
    have hA := args_eq m m' c h0 h1 h2 h3 h4 h5 h6
    rw [hA] at a b d e
    exact ⟨a, b, d, e, Cert.ReferenceIdeal.Value.kept_main_arg0 m' r h c, Cert.ReferenceIdeal.Value.kept_main_arg1 m' r h c,
      Cert.ReferenceIdeal.Value.kept_main_arg2 m' r h c, Cert.ReferenceIdeal.Value.kept_main_arg3 m' r h c,
      Cert.ReferenceIdeal.Value.kept_main_arg4 m' r h c, Cert.ReferenceIdeal.Value.kept_main_arg5 m' r h c,
      Cert.ReferenceIdeal.Value.kept_main_arg6 m' r h c⟩

end Cert.KernelIdeal.Gen

end
-- ==== Proof.lean ====
/- The certificate's claims: the three programs run to quiescent ends; the idealisation keeps the program; over the extended reals the
   kernel's results are the reference's. -/
module

public import proofs.«01_k».proof.Defs
public import proofs.«01_k».proof.Proof.Printed.Frame
public import proofs.«01_k».proof.Proof.Attn.Launch
public import proofs.«01_k».proof.Proof.Attn.RefRun
public import proofs.«01_k».proof.Proof.Gen.ReferenceIdeal.Frame
public import proofs.«01_k».proof.Proof.Attn.Algebraic
public import Idealize.ShloMosaic.Adequacy
public import Idealize.ShloMosaic.Init

@[expose] public section

noncomputable section

namespace Cert.Proof

open Idealize.ShloMosaic Idealize.SL.Sem Cert.Kernel

/-- The named constant is the real it is named for. -/
theorem preserves : Cert.preserves_Kernel_KernelIdeal :=
  IdealRules.named_const.statement Cert.KernelIdeal.κ "softmax_scale" .f32 0x3D8293EE#32
    (((Real.sqrt 512)⁻¹ * (Real.log 2)⁻¹ : ℝ) : EReal) rfl

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    preserves,
    Cert.KernelIdeal.Gen.algebraic⟩

end Cert.Proof

end
